-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QuantDy (m : (ℓ : Loc Cert.QuantDy.nD Cert.QuantDy.τ Cert.QuantDy.sig) → Buf (Elt Bits) ℓ) : Prop :=
  True

def Pre_QuantDyIdeal (m : (ℓ : Loc Cert.QuantDyIdeal.nD Cert.QuantDyIdeal.τ Cert.QuantDyIdeal.sig) → Buf (Elt Ideal) ℓ) : Prop :=
  True

def Pre_ReferenceDyIdeal (m : (ℓ : Loc Cert.ReferenceDyIdeal.nD Cert.ReferenceDyIdeal.τ Cert.ReferenceDyIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_QuantDy [hQuantDy : Cert.QuantDy.Facts] : Prop :=
  ∀ (m : (ℓ : Loc Cert.QuantDy.nD Cert.QuantDy.τ Cert.QuantDy.sig) → Buf (Elt Bits) ℓ) (g : Dev Cert.QuantDy.nD → PrngReg), Pre_QuantDy m →
    θ_run (Cert.QuantDy.defs (F := Bits)) (onTc (τ := Cert.QuantDy.τ) (Cert.QuantDy.main (F := Bits))) ⟨m, fun _ => 0, g⟩ (fun r => (∀ c : Dev Cert.QuantDy.nD,
      r.2.mem ((c.tc : Thread Cert.QuantDy.nD Cert.QuantDy.τ).loc Cert.QuantDy.main_arg0) = m ((c.tc : Thread Cert.QuantDy.nD Cert.QuantDy.τ).loc Cert.QuantDy.main_arg0)
      ∧ r.2.mem ((c.tc : Thread Cert.QuantDy.nD Cert.QuantDy.τ).loc Cert.QuantDy.main_arg1) = m ((c.tc : Thread Cert.QuantDy.nD Cert.QuantDy.τ).loc Cert.QuantDy.main_arg1))
      ∧ r.2.sem = fun _ => 0)

def quiescent_QuantDyIdeal [hQuantDyIdeal : Cert.QuantDyIdeal.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1))
      ∧ r.2.sem = fun _ => 0)

def quiescent_ReferenceDyIdeal [hReferenceDyIdeal : Cert.ReferenceDyIdeal.Facts] : Prop :=
  ∀ (m : (ℓ : Loc Cert.ReferenceDyIdeal.nD Cert.ReferenceDyIdeal.τ Cert.ReferenceDyIdeal.sig) → Buf (Elt Ideal) ℓ) (g : Dev Cert.ReferenceDyIdeal.nD → PrngReg), Pre_ReferenceDyIdeal m →
    θ_run (Cert.ReferenceDyIdeal.defs (F := Ideal)) (onTc (τ := Cert.ReferenceDyIdeal.τ) (Cert.ReferenceDyIdeal.main (F := Ideal))) ⟨m, fun _ => 0, g⟩ (fun r => (∀ c : Dev Cert.ReferenceDyIdeal.nD,
      r.2.mem ((c.tc : Thread Cert.ReferenceDyIdeal.nD Cert.ReferenceDyIdeal.τ).loc Cert.ReferenceDyIdeal.main_arg0) = m ((c.tc : Thread Cert.ReferenceDyIdeal.nD Cert.ReferenceDyIdeal.τ).loc Cert.ReferenceDyIdeal.main_arg0)
      ∧ r.2.mem ((c.tc : Thread Cert.ReferenceDyIdeal.nD Cert.ReferenceDyIdeal.τ).loc Cert.ReferenceDyIdeal.main_arg1) = m ((c.tc : Thread Cert.ReferenceDyIdeal.nD Cert.ReferenceDyIdeal.τ).loc Cert.ReferenceDyIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_QuantDy_QuantDyIdeal : Prop :=
  True

def algebraic_QuantDyIdeal_ReferenceDyIdeal [hQuantDyIdeal : Cert.QuantDyIdeal.Facts] [hReferenceDyIdeal : Cert.ReferenceDyIdeal.Facts] : Prop :=
  ∀ (m : (ℓ : Loc Cert.QuantDyIdeal.nD Cert.QuantDyIdeal.τ Cert.QuantDyIdeal.sig) → Buf (Elt Ideal) ℓ) (g : Dev Cert.QuantDyIdeal.nD → PrngReg)
    (m' : (ℓ : Loc Cert.ReferenceDyIdeal.nD Cert.ReferenceDyIdeal.τ Cert.ReferenceDyIdeal.sig) → Buf (Elt Ideal) ℓ) (g' : Dev Cert.ReferenceDyIdeal.nD → PrngReg), Pre_QuantDyIdeal m →
    (∀ c : Dev Cert.QuantDyIdeal.nD,
      m' ((c.tc : Thread Cert.ReferenceDyIdeal.nD Cert.ReferenceDyIdeal.τ).loc Cert.ReferenceDyIdeal.main_arg0) = m ((c.tc : Thread Cert.QuantDyIdeal.nD Cert.QuantDyIdeal.τ).loc Cert.QuantDyIdeal.main_arg0)
      ∧ m' ((c.tc : Thread Cert.ReferenceDyIdeal.nD Cert.ReferenceDyIdeal.τ).loc Cert.ReferenceDyIdeal.main_arg1) = m ((c.tc : Thread Cert.QuantDyIdeal.nD Cert.QuantDyIdeal.τ).loc Cert.QuantDyIdeal.main_arg1)) →
    ∃ (v0 : (c : Dev Cert.QuantDyIdeal.nD) → Buf (Elt Ideal) ((c.tc : Thread Cert.QuantDyIdeal.nD Cert.QuantDyIdeal.τ).loc Cert.QuantDyIdeal.main_v2_0)) (v1 : (c : Dev Cert.QuantDyIdeal.nD) → Buf (Elt Ideal) ((c.tc : Thread Cert.QuantDyIdeal.nD Cert.QuantDyIdeal.τ).loc Cert.QuantDyIdeal.main_v2_1)) (v2 : (c : Dev Cert.QuantDyIdeal.nD) → Buf (Elt Ideal) ((c.tc : Thread Cert.QuantDyIdeal.nD Cert.QuantDyIdeal.τ).loc Cert.QuantDyIdeal.main_v2_2)),
      θ_run (Cert.QuantDyIdeal.defs (F := Ideal)) (onTc (τ := Cert.QuantDyIdeal.τ) (Cert.QuantDyIdeal.main (F := Ideal))) ⟨m, fun _ => 0, g⟩ (fun r => ∀ c : Dev Cert.QuantDyIdeal.nD,
          r.2.mem ((c.tc : Thread Cert.QuantDyIdeal.nD Cert.QuantDyIdeal.τ).loc Cert.QuantDyIdeal.main_v2_0) = v0 c
          ∧ r.2.mem ((c.tc : Thread Cert.QuantDyIdeal.nD Cert.QuantDyIdeal.τ).loc Cert.QuantDyIdeal.main_v2_1) = v1 c
          ∧ r.2.mem ((c.tc : Thread Cert.QuantDyIdeal.nD Cert.QuantDyIdeal.τ).loc Cert.QuantDyIdeal.main_v2_2) = v2 c
          ∧ r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
          ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1))
      ∧ θ_run (Cert.ReferenceDyIdeal.defs (F := Ideal)) (onTc (τ := Cert.ReferenceDyIdeal.τ) (Cert.ReferenceDyIdeal.main (F := Ideal))) ⟨m', fun _ => 0, g'⟩ (fun r => ∀ c : Dev Cert.ReferenceDyIdeal.nD,
          r.2.mem ((c.tc : Thread Cert.ReferenceDyIdeal.nD Cert.ReferenceDyIdeal.τ).loc Cert.ReferenceDyIdeal.main_v94) = v0 c
          ∧ r.2.mem ((c.tc : Thread Cert.ReferenceDyIdeal.nD Cert.ReferenceDyIdeal.τ).loc Cert.ReferenceDyIdeal.main_v106) = v1 c
          ∧ r.2.mem ((c.tc : Thread Cert.ReferenceDyIdeal.nD Cert.ReferenceDyIdeal.τ).loc Cert.ReferenceDyIdeal.main_v107) = v2 c
          ∧ r.2.mem ((c.tc : Thread Cert.ReferenceDyIdeal.nD Cert.ReferenceDyIdeal.τ).loc Cert.ReferenceDyIdeal.main_arg0) = m' ((c.tc : Thread Cert.ReferenceDyIdeal.nD Cert.ReferenceDyIdeal.τ).loc Cert.ReferenceDyIdeal.main_arg0)
          ∧ r.2.mem ((c.tc : Thread Cert.ReferenceDyIdeal.nD Cert.ReferenceDyIdeal.τ).loc Cert.ReferenceDyIdeal.main_arg1) = m' ((c.tc : Thread Cert.ReferenceDyIdeal.nD Cert.ReferenceDyIdeal.τ).loc Cert.ReferenceDyIdeal.main_arg1))

def Claim : Prop :=
  ∃ (hKernel : Cert.Kernel.Facts) (hKernelIdeal : Cert.KernelIdeal.Facts) (hReferenceIdeal : Cert.ReferenceIdeal.Facts) (hQuantDy : Cert.QuantDy.Facts) (hQuantDyIdeal : Cert.QuantDyIdeal.Facts) (hReferenceDyIdeal : Cert.ReferenceDyIdeal.Facts),
    quiescent_Kernel (hKernel := hKernel)
    ∧ quiescent_KernelIdeal (hKernelIdeal := hKernelIdeal)
    ∧ quiescent_ReferenceIdeal (hReferenceIdeal := hReferenceIdeal)
    ∧ quiescent_QuantDy (hQuantDy := hQuantDy)
    ∧ quiescent_QuantDyIdeal (hQuantDyIdeal := hQuantDyIdeal)
    ∧ quiescent_ReferenceDyIdeal (hReferenceDyIdeal := hReferenceDyIdeal)
    ∧ preserves_Kernel_KernelIdeal
    ∧ algebraic_KernelIdeal_ReferenceIdeal (hKernelIdeal := hKernelIdeal) (hReferenceIdeal := hReferenceIdeal)
    ∧ preserves_QuantDy_QuantDyIdeal
    ∧ algebraic_QuantDyIdeal_ReferenceDyIdeal (hQuantDyIdeal := hQuantDyIdeal) (hReferenceDyIdeal := hReferenceDyIdeal)
-- ==== Kernel.lean ====
abbrev S2x2048x12288 : Shape := ⟨3, ![2, 2048, 12288]⟩
abbrev S3456x4096 : Shape := ⟨2, ![3456, 4096]⟩
abbrev S2 : Shape := ⟨1, ![2]⟩
abbrev S4096x12288 : Shape := ⟨2, ![4096, 12288]⟩
abbrev S64x384 : Shape := ⟨2, ![64, 384]⟩
abbrev S12288x3456 : Shape := ⟨2, ![12288, 3456]⟩
abbrev S4096x512 : Shape := ⟨2, ![4096, 512]⟩
abbrev S512x384 : Shape := ⟨2, ![512, 384]⟩
abbrev S1 : Shape := ⟨1, ![1]⟩
abbrev S8x128 : Shape := ⟨2, ![8, 128]⟩
abbrev S512x128 : Shape := ⟨2, ![512, 128]⟩
abbrev S8x64x128 : Shape := ⟨3, ![8, 64, 128]⟩
abbrev S8x1x128 : Shape := ⟨3, ![8, 1, 128]⟩
abbrev S8x128x1 : Shape := ⟨3, ![8, 128, 1]⟩
abbrev S384x4096 : Shape := ⟨2, ![384, 4096]⟩
abbrev S384x512 : Shape := ⟨2, ![384, 512]⟩

abbrev nBuf : Space → Nat
  | .hbm => 8
  | .vmem => 9
  | .smem => 1
  | _ => 0

abbrev bufTy : (tb : Table) → Fin (tcTables nBuf tb) → BufTy
  | .hbm, ⟨0, _⟩ => ⟨S2x2048x12288, .bf16⟩
  | .hbm, ⟨1, _⟩ => ⟨S3456x4096, .bf16⟩
  | .hbm, ⟨2, _⟩ => ⟨S2, .i32⟩
  | .hbm, ⟨3, _⟩ => ⟨S2, .i32⟩
  | .hbm, ⟨4, _⟩ => ⟨S4096x12288, .bf16⟩
  | .hbm, ⟨5, _⟩ => ⟨S4096x12288, .i8⟩
  | .hbm, ⟨6, _⟩ => ⟨S64x384, .f32⟩
  | .hbm, ⟨7, _⟩ => ⟨S12288x3456, .f32⟩
  | .local _ .vmem, ⟨0, _⟩ => ⟨S4096x512, .bf16⟩
  | .local _ .vmem, ⟨1, _⟩ => ⟨S4096x512, .bf16⟩
  | .local _ .vmem, ⟨2, _⟩ => ⟨S3456x4096, .bf16⟩
  | .local _ .vmem, ⟨3, _⟩ => ⟨S4096x512, .i8⟩
  | .local _ .vmem, ⟨4, _⟩ => ⟨S4096x512, .i8⟩
  | .local _ .vmem, ⟨5, _⟩ => ⟨S64x384, .f32⟩
  | .local _ .vmem, ⟨6, _⟩ => ⟨S512x384, .f32⟩
  | .local _ .vmem, ⟨7, _⟩ => ⟨S512x384, .f32⟩
  | .local _ .vmem, ⟨8, _⟩ => ⟨S4096x512, .bf16⟩
  | .local _ .smem, ⟨0, _⟩ => ⟨S2, .i32⟩
  | _, _ => ⟨S2x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![24, 9], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_6 : BitVec 32 := 0#32
  let c8_i32 : BitVec 32 := 8#32
  let v13 : BitVec 32 := Scalar.addi c0_i32_6 c8_i32
  let c1_i32 : BitVec 32 := 1#32
  ⟨c0_i32_6, v13, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c512_i32 : BitVec 32 := 512#32
  let v14 : BitVec 32 := Scalar.muli arg9 c512_i32
  v14
def k0_mult2 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_8 : BitVec 32 := 8#32
  let v16 : BitVec 32 := Scalar.muli arg9 c8_i32_8
  v16
def k0_mult3 (i : grid0.Coords) : BitVec 32 :=
  let arg0 : BitVec 32 := BitVec.ofNat 32 (i 0).val
  let c0_i32_10 : BitVec 32 := 0#32
  let v19 : BitVec 1 := Scalar.cmpi .sgt arg0 c0_i32_10
  let v20 : BitVec 32 := Scalar.extui v19
  let c0_i32_11 : BitVec 32 := 0#32
  let v21 : BitVec 1 := Scalar.cmpi .slt arg0 c0_i32_11
  let v22 : BitVec 32 := Scalar.extui v21
  let v23 : BitVec 32 := Scalar.subi v20 v22
  let c8_i32_9 : BitVec 32 := 8#32
  let c0_i32_12 : BitVec 32 := 0#32
  let v24 : BitVec 1 := Scalar.cmpi .sgt c8_i32_9 c0_i32_12
  let v25 : BitVec 32 := Scalar.extui v24
  let c0_i32_13 : BitVec 32 := 0#32
  let v26 : BitVec 1 := Scalar.cmpi .slt c8_i32_9 c0_i32_13
  let v27 : BitVec 32 := Scalar.extui v26
  let v28 : BitVec 32 := Scalar.subi v25 v27
  let v29 : BitVec 1 := Scalar.cmpi .ne v23 v28
  let v30 : BitVec 32 := Scalar.remsi arg0 c8_i32_9
  let c0_i32_14 : BitVec 32 := 0#32
  let v31 : BitVec 1 := Scalar.cmpi .ne v30 c0_i32_14
  let v32 : BitVec 1 := Scalar.andi v29 v31
  let v18 : BitVec 32 := Scalar.divsi arg0 c8_i32_9
  let c1_i32_15 : BitVec 32 := 1#32
  let v33 : BitVec 32 := Scalar.subi v18 c1_i32_15
  let v34 : BitVec 32 := Scalar.select v32 v33 v18
  let c128_i32 : BitVec 32 := 128#32
  let v35 : BitVec 32 := Scalar.muli v34 c128_i32
  v35
def k0_off1 (i : grid0.Coords) (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c8_i32_8 : BitVec 32 := 8#32
  let v16 : BitVec 32 := Scalar.muli arg9 c8_i32_8
  let v17 : BitVec 32 := v16
  let v37 : Index := Scalar.indexCast v17
  let arg0 : BitVec 32 := BitVec.ofNat 32 (i 0).val
  let c0_i32_10 : BitVec 32 := 0#32
  let v19 : BitVec 1 := Scalar.cmpi .sgt arg0 c0_i32_10
  let v20 : BitVec 32 := Scalar.extui v19
  let c0_i32_11 : BitVec 32 := 0#32
  let v21 : BitVec 1 := Scalar.cmpi .slt arg0 c0_i32_11
  let v22 : BitVec 32 := Scalar.extui v21
  let v23 : BitVec 32 := Scalar.subi v20 v22
  let c8_i32_9 : BitVec 32 := 8#32
  let c0_i32_12 : BitVec 32 := 0#32
  let v24 : BitVec 1 := Scalar.cmpi .sgt c8_i32_9 c0_i32_12
  let v25 : BitVec 32 := Scalar.extui v24
  let c0_i32_13 : BitVec 32 := 0#32
  let v26 : BitVec 1 := Scalar.cmpi .slt c8_i32_9 c0_i32_13
  let v27 : BitVec 32 := Scalar.extui v26
  let v28 : BitVec 32 := Scalar.subi v25 v27
  let v29 : BitVec 1 := Scalar.cmpi .ne v23 v28
  let v30 : BitVec 32 := Scalar.remsi arg0 c8_i32_9
  let c0_i32_14 : BitVec 32 := 0#32
  let v31 : BitVec 1 := Scalar.cmpi .ne v30 c0_i32_14
  let v32 : BitVec 1 := Scalar.andi v29 v31
  let v18 : BitVec 32 := Scalar.divsi arg0 c8_i32_9
  let c1_i32_15 : BitVec 32 := 1#32
  let v33 : BitVec 32 := Scalar.subi v18 c1_i32_15
  let v34 : BitVec 32 := Scalar.select v32 v33 v18
  let c128_i32 : BitVec 32 := 128#32
  let v35 : BitVec 32 := Scalar.muli v34 c128_i32
  let v36 : BitVec 32 := v35
  let v38 : Index := Scalar.indexCast v36
  ![v37.toNat, v38.toNat]
def k0_off2 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c512_i32 : BitVec 32 := 512#32
  let v14 : BitVec 32 := Scalar.muli arg9 c512_i32
  let v15 : BitVec 32 := v14
  let v41 : Index := Scalar.indexCast v15
  let c0_16 : Index := 0#32
  ![v41.toNat, 0]
def k0_off3 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c512_i32 : BitVec 32 := 512#32
  let v14 : BitVec 32 := Scalar.muli arg9 c512_i32
  let v15 : BitVec 32 := v14
  let v273 : Index := Scalar.indexCast v15
  let c128 : Index := 128#32
  ![v273.toNat, 128]
def k0_off4 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c512_i32 : BitVec 32 := 512#32
  let v14 : BitVec 32 := Scalar.muli arg9 c512_i32
  let v15 : BitVec 32 := v14
  let v505 : Index := Scalar.indexCast v15
  let c256 : Index := 256#32
  ![v505.toNat, 256]
def k0_off5 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c512_i32 : BitVec 32 := 512#32
  let v14 : BitVec 32 := Scalar.muli arg9 c512_i32
  let v15 : BitVec 32 := v14
  let v737 : Index := Scalar.indexCast v15
  let c384 : Index := 384#32
  ![v737.toNat, 384]
def k0_mult4 (i : grid0.Coords) : BitVec 32 :=
  let arg1 : BitVec 32 := BitVec.ofNat 32 (i 1).val
  let c384_i32 : BitVec 32 := 384#32
  let v5 : BitVec 32 := Scalar.muli arg1 c384_i32
  v5
def k0_off6 (i : grid0.Coords) : Fin 2 → Nat :=
  let arg1 : BitVec 32 := BitVec.ofNat 32 (i 1).val
  let c384_i32 : BitVec 32 := 384#32
  let v5 : BitVec 32 := Scalar.muli arg1 c384_i32
  let v6 : BitVec 32 := v5
  let v7 : Index := Scalar.indexCast v6
  let c0_1 : Index := 0#32
  ![v7.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3456x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x2048x12288 : Shape := ⟨3, ![2, 2048, 12288]⟩
abbrev S3456x4096 : Shape := ⟨2, ![3456, 4096]⟩
abbrev S2 : Shape := ⟨1, ![2]⟩
abbrev S1 : Shape := ⟨1, ![1]⟩
abbrev S_ : Shape := ⟨0, ![]⟩
abbrev S2x32x64x12288 : Shape := ⟨4, ![2, 32, 64, 12288]⟩
abbrev S2x32x12288 : Shape := ⟨3, ![2, 32, 12288]⟩
abbrev S2x32x384x32 : Shape := ⟨4, ![2, 32, 384, 32]⟩
abbrev S2x32x384 : Shape := ⟨3, ![2, 32, 384]⟩
abbrev S2x32x1x12288 : Shape := ⟨4, ![2, 32, 1, 12288]⟩
abbrev S2x32x64x1 : Shape := ⟨4, ![2, 32, 64, 1]⟩
abbrev S1x1x1x12288 : Shape := ⟨4, ![1, 1, 1, 12288]⟩
abbrev S4096x12288 : Shape := ⟨2, ![4096, 12288]⟩
abbrev S12288x3456 : Shape := ⟨2, ![12288, 3456]⟩
abbrev S64x384 : Shape := ⟨2, ![64, 384]⟩

abbrev nBuf : Space → Nat
  | .hbm => 164
  | .vmem => 0
  | .smem => 0
  | _ => 0

abbrev hbmTy0_0 (i : Nat) : BufTy := match i % 128 with
  | 0 => ⟨S2x2048x12288, .bf16⟩
  | 1 => ⟨S3456x4096, .bf16⟩
  | 2 => ⟨S2, .i32⟩
  | 3 => ⟨S1, .i32⟩
  | 4 => ⟨S_, .i32⟩
  | 5 => ⟨S2x2048x12288, .f32⟩
  | 6 => ⟨S2x32x64x12288, .f32⟩
  | 7 => ⟨S2x32x64x12288, .f32⟩
  | 8 => ⟨S_, .f32⟩
  | 9 => ⟨S2x32x12288, .f32⟩
  | 10 => ⟨S2x32x384x32, .f32⟩
  | 11 => ⟨S_, .f32⟩
  | 12 => ⟨S2x32x384, .f32⟩
  | 13 => ⟨S_, .f32⟩
  | 14 => ⟨S2x32x384, .f32⟩
  | 15 => ⟨S2x32x384, .i1⟩
  | 16 => ⟨S_, .f32⟩
  | 17 => ⟨S2x32x384, .f32⟩
  | 18 => ⟨S2x32x384, .i1⟩
  | 19 => ⟨S2x32x384, .i1⟩
  | 20 => ⟨S2x32x384, .f32⟩
  | 21 => ⟨S_, .f32⟩
  | 22 => ⟨S_, .f32⟩
  | 23 => ⟨S2x32x384, .f32⟩
  | 24 => ⟨S2x32x384, .f32⟩
  | 25 => ⟨S2x32x384, .f32⟩
  | 26 => ⟨S_, .f32⟩
  | 27 => ⟨S2x32x384, .f32⟩
  | 28 => ⟨S2x32x384, .f32⟩
  | 29 => ⟨S_, .f32⟩
  | 30 => ⟨S2x32x384, .f32⟩
  | 31 => ⟨S2x32x384, .f32⟩
  | 32 => ⟨S_, .f32⟩
  | 33 => ⟨S_, .f32⟩
  | 34 => ⟨S2x32x384, .f32⟩
  | 35 => ⟨S2x32x384, .f32⟩
  | 36 => ⟨S_, .f32⟩
  | 37 => ⟨S2x32x384, .f32⟩
  | 38 => ⟨S2x32x384, .i1⟩
  | 39 => ⟨S_, .f32⟩
  | 40 => ⟨S2x32x384, .f32⟩
  | 41 => ⟨S2x32x384, .f32⟩
  | 42 => ⟨S_, .f32⟩
  | 43 => ⟨S2x32x384, .f32⟩
  | 44 => ⟨S2x32x384, .i1⟩
  | 45 => ⟨S_, .f32⟩
  | 46 => ⟨S2x32x384, .f32⟩
  | 47 => ⟨S2x32x384, .i1⟩
  | 48 => ⟨S_, .f32⟩
  | 49 => ⟨S2x32x384, .f32⟩
  | 50 => ⟨S2x32x384, .f32⟩
  | 51 => ⟨S_, .f32⟩
  | 52 => ⟨S_, .f32⟩
  | 53 => ⟨S2x32x384, .f32⟩
  | 54 => ⟨S2x32x384, .f32⟩
  | 55 => ⟨S_, .f32⟩
  | 56 => ⟨S_, .f32⟩
  | 57 => ⟨S2x32x384, .f32⟩
  | 58 => ⟨S2x32x384, .f32⟩
  | 59 => ⟨S_, .f32⟩
  | 60 => ⟨S2x32x384, .f32⟩
  | 61 => ⟨S2x32x384, .f32⟩
  | 62 => ⟨S_, .f32⟩
  | 63 => ⟨S2x32x384, .f32⟩
  | 64 => ⟨S2x32x384, .i1⟩
  | 65 => ⟨S_, .f32⟩
  | 66 => ⟨S2x32x384, .f32⟩
  | 67 => ⟨S2x32x384, .f32⟩
  | 68 => ⟨S_, .f32⟩
  | 69 => ⟨S2x32x384, .f32⟩
  | 70 => ⟨S2x32x384, .i1⟩
  | 71 => ⟨S_, .f32⟩
  | 72 => ⟨S2x32x384, .f32⟩
  | 73 => ⟨S2x32x384, .i1⟩
  | 74 => ⟨S_, .f32⟩
  | 75 => ⟨S2x32x384, .f32⟩
  | 76 => ⟨S2x32x384, .f32⟩
  | 77 => ⟨S_, .f32⟩
  | 78 => ⟨S_, .f32⟩
  | 79 => ⟨S2x32x384, .f32⟩
  | 80 => ⟨S2x32x384, .f32⟩
  | 81 => ⟨S_, .f32⟩
  | 82 => ⟨S_, .f32⟩
  | 83 => ⟨S2x32x384, .f32⟩
  | 84 => ⟨S2x32x384, .f32⟩
  | 85 => ⟨S_, .f32⟩
  | 86 => ⟨S2x32x384, .f32⟩
  | 87 => ⟨S2x32x384, .f32⟩
  | 88 => ⟨S2x32x384x32, .f32⟩
  | 89 => ⟨S2x32x12288, .f32⟩
  | 90 => ⟨S2x32x1x12288, .f32⟩
  | 91 => ⟨S2x32x64x12288, .f32⟩
  | 92 => ⟨S2x32x64x12288, .f32⟩
  | 93 => ⟨S2x32x64x1, .i32⟩
  | 94 => ⟨S_, .i32⟩
  | 95 => ⟨S2x32x64x1, .i32⟩
  | 96 => ⟨S2x32x64x1, .i32⟩
  | 97 => ⟨S2x32x64x1, .i32⟩
  | 98 => ⟨S_, .i32⟩
  | 99 => ⟨S2x32x64x1, .i32⟩
  | 100 => ⟨S2x32x64x1, .i32⟩
  | 101 => ⟨S2x32x64x1, .i32⟩
  | 102 => ⟨S2x32x64x1, .i32⟩
  | 103 => ⟨S2x32x64x1, .i32⟩
  | 104 => ⟨S1x1x1x12288, .i32⟩
  | 105 => ⟨S_, .i32⟩
  | 106 => ⟨S2x32x64x1, .i32⟩
  | 107 => ⟨S2x32x64x1, .i32⟩
  | 108 => ⟨S2x32x64x12288, .i32⟩
  | 109 => ⟨S2x32x64x12288, .i32⟩
  | 110 => ⟨S2x32x64x12288, .i32⟩
  | 111 => ⟨S2x32x64x12288, .i32⟩
  | 112 => ⟨S2x32x64x12288, .i32⟩
  | 113 => ⟨S_, .i32⟩
  | 114 => ⟨S2x32x64x12288, .i32⟩
  | 115 => ⟨S2x32x64x12288, .i32⟩
  | 116 => ⟨S2x32x64x12288, .i32⟩
  | 117 => ⟨S_, .i32⟩
  | 118 => ⟨S2x32x64x12288, .i32⟩
  | 119 => ⟨S2x32x64x12288, .i32⟩
  | 120 => ⟨S_, .i32⟩
  | 121 => ⟨S2x32x64x12288, .i32⟩
  | 122 => ⟨S2x32x64x12288, .i32⟩
  | 123 => ⟨S2x32x64x12288, .i32⟩
  | 124 => ⟨S_, .i32⟩
  | 125 => ⟨S2x32x64x12288, .i32⟩
  | 126 => ⟨S2x32x64x12288, .i32⟩
  | 127 => ⟨S_, .i32⟩
  | _ => ⟨S2x2048x12288, .bf16⟩

abbrev hbmTy0_1 (i : Nat) : BufTy := match i % 128 with
  | 0 => ⟨S2x32x64x12288, .i32⟩
  | 1 => ⟨S2x32x64x12288, .i32⟩
  | 2 => ⟨S2x32x64x12288, .i32⟩
  | 3 => ⟨S_, .i32⟩
  | 4 => ⟨S2x32x64x12288, .i32⟩
  | 5 => ⟨S2x32x64x12288, .i32⟩
  | 6 => ⟨S2x32x64x12288, .f32⟩
  | 7 => ⟨S_, .f32⟩
  | 8 => ⟨S2x32x64x12288, .f32⟩
  | 9 => ⟨S2x32x64x12288, .f32⟩
  | 10 => ⟨S2x32x64x12288, .f32⟩
  | 11 => ⟨S2x32x64x12288, .f32⟩
  | 12 => ⟨S_, .i32⟩
  | 13 => ⟨S_, .i32⟩
  | 14 => ⟨S_, .f32⟩
  | 15 => ⟨S2x32x64x12288, .f32⟩
  | 16 => ⟨S2x32x64x12288, .f32⟩
  | 17 => ⟨S_, .f32⟩
  | 18 => ⟨S2x32x64x12288, .f32⟩
  | 19 => ⟨S2x32x64x12288, .f32⟩
  | 20 => ⟨S2x32x64x12288, .i32⟩
  | 21 => ⟨S2x32x64x12288, .i8⟩
  | 22 => ⟨S4096x12288, .i8⟩
  | 23 => ⟨S2x32x384, .bf16⟩
  | 24 => ⟨S2x32x384x32, .bf16⟩
  | 25 => ⟨S2x32x12288, .bf16⟩
  | 26 => ⟨S4096x12288, .i32⟩
  | 27 => ⟨S4096x12288, .f32⟩
  | 28 => ⟨S4096x12288, .bf16⟩
  | 29 => ⟨S2x32x64x12288, .bf16⟩
  | 30 => ⟨S2x32x1x12288, .bf16⟩
  | 31 => ⟨S2x32x64x12288, .bf16⟩
  | 32 => ⟨S2x32x64x12288, .bf16⟩
  | 33 => ⟨S4096x12288, .bf16⟩
  | 34 => ⟨S12288x3456, .f32⟩
  | 35 => ⟨S64x384, .f32⟩
  | _ => ⟨S2x2048x12288, .bf16⟩

abbrev hbmTy (i : Nat) : BufTy := match i / 128 with
  | 0 => hbmTy0_0 i
  | 1 => hbmTy0_1 i
  | _ => ⟨S2x2048x12288, .bf16⟩

abbrev bufTy : (tb : Table) → Fin (tcTables nBuf tb) → BufTy
  | .hbm, ⟨i, _⟩ => hbmTy i
  | _, _ => ⟨S2x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_cst_12 : Ref sig .tc := ⟨.hbm, 51, rfl⟩
abbrev main_call1_v0 : Ref sig .tc := ⟨.hbm, 52, rfl⟩
abbrev main_call1_v1 : Ref sig .tc := ⟨.hbm, 53, rfl⟩
abbrev main_v33 : Ref sig .tc := ⟨.hbm, 54, rfl⟩
abbrev main_cst_13 : Ref sig .tc := ⟨.hbm, 55, rfl⟩
abbrev main_call2_v0 : Ref sig .tc := ⟨.hbm, 56, rfl⟩
abbrev main_call2_v1 : Ref sig .tc := ⟨.hbm, 57, rfl⟩
abbrev main_v34 : Ref sig .tc := ⟨.hbm, 58, rfl⟩
abbrev main_cst_14 : Ref sig .tc := ⟨.hbm, 59, rfl⟩
abbrev main_call3_v0 : Ref sig .tc := ⟨.hbm, 60, rfl⟩
abbrev main_v35 : Ref sig .tc := ⟨.hbm, 61, rfl⟩
abbrev main_cst_15 : Ref sig .tc := ⟨.hbm, 62, rfl⟩
abbrev main_v36 : Ref sig .tc := ⟨.hbm, 63, rfl⟩
abbrev main_v37 : Ref sig .tc := ⟨.hbm, 64, rfl⟩
abbrev main_cst_16 : Ref sig .tc := ⟨.hbm, 65, rfl⟩
abbrev main_v38 : Ref sig .tc := ⟨.hbm, 66, rfl⟩
abbrev main_v39 : Ref sig .tc := ⟨.hbm, 67, rfl⟩
abbrev main_cst_17 : Ref sig .tc := ⟨.hbm, 68, rfl⟩
abbrev main_v40 : Ref sig .tc := ⟨.hbm, 69, rfl⟩
abbrev main_v41 : Ref sig .tc := ⟨.hbm, 70, rfl⟩
abbrev main_cst_18 : Ref sig .tc := ⟨.hbm, 71, rfl⟩
abbrev main_v42 : Ref sig .tc := ⟨.hbm, 72, rfl⟩
abbrev main_v43 : Ref sig .tc := ⟨.hbm, 73, rfl⟩
abbrev main_cst_19 : Ref sig .tc := ⟨.hbm, 74, rfl⟩
abbrev main_v44 : Ref sig .tc := ⟨.hbm, 75, rfl⟩
abbrev main_v45 : Ref sig .tc := ⟨.hbm, 76, rfl⟩
abbrev main_cst_20 : Ref sig .tc := ⟨.hbm, 77, rfl⟩
abbrev main_call4_v0 : Ref sig .tc := ⟨.hbm, 78, rfl⟩
abbrev main_call4_v1 : Ref sig .tc := ⟨.hbm, 79, rfl⟩
abbrev main_v46 : Ref sig .tc := ⟨.hbm, 80, rfl⟩
abbrev main_cst_21 : Ref sig .tc := ⟨.hbm, 81, rfl⟩
abbrev main_call5_v0 : Ref sig .tc := ⟨.hbm, 82, rfl⟩
abbrev main_call5_v1 : Ref sig .tc := ⟨.hbm, 83, rfl⟩
abbrev main_v47 : Ref sig .tc := ⟨.hbm, 84, rfl⟩
abbrev main_cst_22 : Ref sig .tc := ⟨.hbm, 85, rfl⟩
abbrev main_call6_v0 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_23 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_24 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_25 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_26 : Ref sig .tc := ⟨.hbm, 117, rfl⟩
abbrev main_v74 : Ref sig .tc := ⟨.hbm, 118, rfl⟩
abbrev main_v75 : Ref sig .tc := ⟨.hbm, 119, rfl⟩
abbrev main_c_27 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_28 : Ref sig .tc := ⟨.hbm, 124, rfl⟩
abbrev main_v79 : Ref sig .tc := ⟨.hbm, 125, rfl⟩
abbrev main_v80 : Ref sig .tc := ⟨.hbm, 126, rfl⟩
abbrev main_c_29 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_30 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_31 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_c_32 : Ref sig .tc := ⟨.hbm, 140, rfl⟩
abbrev main_c_33 : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩

abbrev nD : Nat := 1
abbrev τ : Topo := Topo.v7x

variable {F : FTy → Type} [FloatOps F]
-- ==== QuantDy.lean ====
abbrev S2x2048x3456 : Shape := ⟨3, ![2, 2048, 3456]⟩
abbrev S2 : Shape := ⟨1, ![2]⟩
abbrev S4096x3456 : Shape := ⟨2, ![4096, 3456]⟩
abbrev S64x108 : Shape := ⟨2, ![64, 108]⟩
abbrev S3456x4096 : Shape := ⟨2, ![3456, 4096]⟩
abbrev S4096x128 : Shape := ⟨2, ![4096, 128]⟩
abbrev S128x4096 : Shape := ⟨2, ![128, 4096]⟩
abbrev S1 : Shape := ⟨1, ![1]⟩
abbrev S8x128 : Shape := ⟨2, ![8, 128]⟩
abbrev S512x128 : Shape := ⟨2, ![512, 128]⟩
abbrev S8x64x128 : Shape := ⟨3, ![8, 64, 128]⟩
abbrev S8x1x128 : Shape := ⟨3, ![8, 1, 128]⟩
abbrev S128x512 : Shape := ⟨2, ![128, 512]⟩
abbrev S8x108 : Shape := ⟨2, ![8, 108]⟩
abbrev S8x128x1 : Shape := ⟨3, ![8, 128, 1]⟩

abbrev nBuf : Space → Nat
  | .hbm => 7
  | .vmem => 7
  | .smem => 1
  | _ => 0

abbrev bufTy : (tb : Table) → Fin (tcTables nBuf tb) → BufTy
  | .hbm, ⟨0, _⟩ => ⟨S2x2048x3456, .bf16⟩
  | .hbm, ⟨1, _⟩ => ⟨S2, .i32⟩
  | .hbm, ⟨2, _⟩ => ⟨S2, .i32⟩
  | .hbm, ⟨3, _⟩ => ⟨S4096x3456, .bf16⟩
  | .hbm, ⟨4, _⟩ => ⟨S4096x3456, .i8⟩
  | .hbm, ⟨5, _⟩ => ⟨S64x108, .f32⟩
  | .hbm, ⟨6, _⟩ => ⟨S3456x4096, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .i8⟩
  | .local _ .vmem, ⟨3, _⟩ => ⟨S4096x128, .i8⟩
  | .local _ .vmem, ⟨4, _⟩ => ⟨S64x108, .f32⟩
  | .local _ .vmem, ⟨5, _⟩ => ⟨S128x4096, .bf16⟩
  | .local _ .vmem, ⟨6, _⟩ => ⟨S128x4096, .bf16⟩
  | .local _ .smem, ⟨0, _⟩ => ⟨S2, .i32⟩
  | _, _ => ⟨S2x2048x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![27], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v3 : BitVec 32 := Scalar.muli arg6 c512_i32
  v3
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v3 : BitVec 32 := Scalar.muli arg6 c512_i32
  let v4 : BitVec 32 := v3
  let v5 : Index := Scalar.indexCast v4
  let c0 : Index := 0#32
  ![v5.toNat, 0]
def k0_off2 (k0_t1 : Fin k0_t1_loop.trips) : Fin 2 → Nat :=
  let c0_51 : Index := 0#32
  let c0_i32 : BitVec 32 := 0#32
  let c1_i32 : BitVec 32 := 1#32
  let arg6 : BitVec 32 := Scf.iv c0_i32 c1_i32 k0_t1
  let c512_i32 : BitVec 32 := 512#32
  let v3 : BitVec 32 := Scalar.muli arg6 c512_i32
  let v4 : BitVec 32 := v3
  let v203 : Index := Scalar.indexCast v4
  ![0, v203.toNat]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_52 : BitVec 32 := 8#32
  let v205 : BitVec 32 := Scalar.muli arg6 c8_i32_52
  v205
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_52 : BitVec 32 := 8#32
  let v205 : BitVec 32 := Scalar.muli arg6 c8_i32_52
  let v206 : BitVec 32 := v205
  let v207 : Index := Scalar.indexCast v206
  let c0_53 : Index := 0#32
  ![v207.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x108 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDyIdeal.lean ====
abbrev S2x2048x3456 : Shape := ⟨3, ![2, 2048, 3456]⟩
abbrev S2 : Shape := ⟨1, ![2]⟩
abbrev S1 : Shape := ⟨1, ![1]⟩
abbrev S_ : Shape := ⟨0, ![]⟩
abbrev S2x32x64x3456 : Shape := ⟨4, ![2, 32, 64, 3456]⟩
abbrev S2x32x3456 : Shape := ⟨3, ![2, 32, 3456]⟩
abbrev S2x32x108x32 : Shape := ⟨4, ![2, 32, 108, 32]⟩
abbrev S2x32x108 : Shape := ⟨3, ![2, 32, 108]⟩
abbrev S2x32x1x3456 : Shape := ⟨4, ![2, 32, 1, 3456]⟩
abbrev S2x32x64x1 : Shape := ⟨4, ![2, 32, 64, 1]⟩
abbrev S1x1x1x3456 : Shape := ⟨4, ![1, 1, 1, 3456]⟩
abbrev S4096x3456 : Shape := ⟨2, ![4096, 3456]⟩
abbrev S64x108 : Shape := ⟨2, ![64, 108]⟩
abbrev S3456x4096 : Shape := ⟨2, ![3456, 4096]⟩

abbrev nBuf : Space → Nat
  | .hbm => 163
  | .vmem => 0
  | .smem => 0
  | _ => 0

abbrev hbmTy0_0 (i : Nat) : BufTy := match i % 128 with
  | 0 => ⟨S2x2048x3456, .bf16⟩
  | 1 => ⟨S2, .i32⟩
  | 2 => ⟨S1, .i32⟩
  | 3 => ⟨S_, .i32⟩
  | 4 => ⟨S2x2048x3456, .f32⟩
  | 5 => ⟨S2x32x64x3456, .f32⟩
  | 6 => ⟨S2x32x64x3456, .f32⟩
  | 7 => ⟨S_, .f32⟩
  | 8 => ⟨S2x32x3456, .f32⟩
  | 9 => ⟨S2x32x108x32, .f32⟩
  | 10 => ⟨S_, .f32⟩
  | 11 => ⟨S2x32x108, .f32⟩
  | 12 => ⟨S_, .f32⟩
  | 13 => ⟨S2x32x108, .f32⟩
  | 14 => ⟨S2x32x108, .i1⟩
  | 15 => ⟨S_, .f32⟩
  | 16 => ⟨S2x32x108, .f32⟩
  | 17 => ⟨S2x32x108, .i1⟩
  | 18 => ⟨S2x32x108, .i1⟩
  | 19 => ⟨S2x32x108, .f32⟩
  | 20 => ⟨S_, .f32⟩
  | 21 => ⟨S_, .f32⟩
  | 22 => ⟨S2x32x108, .f32⟩
  | 23 => ⟨S2x32x108, .f32⟩
  | 24 => ⟨S2x32x108, .f32⟩
  | 25 => ⟨S_, .f32⟩
  | 26 => ⟨S2x32x108, .f32⟩
  | 27 => ⟨S2x32x108, .f32⟩
  | 28 => ⟨S_, .f32⟩
  | 29 => ⟨S2x32x108, .f32⟩
  | 30 => ⟨S2x32x108, .f32⟩
  | 31 => ⟨S_, .f32⟩
  | 32 => ⟨S_, .f32⟩
  | 33 => ⟨S2x32x108, .f32⟩
  | 34 => ⟨S2x32x108, .f32⟩
  | 35 => ⟨S_, .f32⟩
  | 36 => ⟨S2x32x108, .f32⟩
  | 37 => ⟨S2x32x108, .i1⟩
  | 38 => ⟨S_, .f32⟩
  | 39 => ⟨S2x32x108, .f32⟩
  | 40 => ⟨S2x32x108, .f32⟩
  | 41 => ⟨S_, .f32⟩
  | 42 => ⟨S2x32x108, .f32⟩
  | 43 => ⟨S2x32x108, .i1⟩
  | 44 => ⟨S_, .f32⟩
  | 45 => ⟨S2x32x108, .f32⟩
  | 46 => ⟨S2x32x108, .i1⟩
  | 47 => ⟨S_, .f32⟩
  | 48 => ⟨S2x32x108, .f32⟩
  | 49 => ⟨S2x32x108, .f32⟩
  | 50 => ⟨S_, .f32⟩
  | 51 => ⟨S_, .f32⟩
  | 52 => ⟨S2x32x108, .f32⟩
  | 53 => ⟨S2x32x108, .f32⟩
  | 54 => ⟨S_, .f32⟩
  | 55 => ⟨S_, .f32⟩
  | 56 => ⟨S2x32x108, .f32⟩
  | 57 => ⟨S2x32x108, .f32⟩
  | 58 => ⟨S_, .f32⟩
  | 59 => ⟨S2x32x108, .f32⟩
  | 60 => ⟨S2x32x108, .f32⟩
  | 61 => ⟨S_, .f32⟩
  | 62 => ⟨S2x32x108, .f32⟩
  | 63 => ⟨S2x32x108, .i1⟩
  | 64 => ⟨S_, .f32⟩
  | 65 => ⟨S2x32x108, .f32⟩
  | 66 => ⟨S2x32x108, .f32⟩
  | 67 => ⟨S_, .f32⟩
  | 68 => ⟨S2x32x108, .f32⟩
  | 69 => ⟨S2x32x108, .i1⟩
  | 70 => ⟨S_, .f32⟩
  | 71 => ⟨S2x32x108, .f32⟩
  | 72 => ⟨S2x32x108, .i1⟩
  | 73 => ⟨S_, .f32⟩
  | 74 => ⟨S2x32x108, .f32⟩
  | 75 => ⟨S2x32x108, .f32⟩
  | 76 => ⟨S_, .f32⟩
  | 77 => ⟨S_, .f32⟩
  | 78 => ⟨S2x32x108, .f32⟩
  | 79 => ⟨S2x32x108, .f32⟩
  | 80 => ⟨S_, .f32⟩
  | 81 => ⟨S_, .f32⟩
  | 82 => ⟨S2x32x108, .f32⟩
  | 83 => ⟨S2x32x108, .f32⟩
  | 84 => ⟨S_, .f32⟩
  | 85 => ⟨S2x32x108, .f32⟩
  | 86 => ⟨S2x32x108, .f32⟩
  | 87 => ⟨S2x32x108x32, .f32⟩
  | 88 => ⟨S2x32x3456, .f32⟩
  | 89 => ⟨S2x32x1x3456, .f32⟩
  | 90 => ⟨S2x32x64x3456, .f32⟩
  | 91 => ⟨S2x32x64x3456, .f32⟩
  | 92 => ⟨S2x32x64x1, .i32⟩
  | 93 => ⟨S_, .i32⟩
  | 94 => ⟨S2x32x64x1, .i32⟩
  | 95 => ⟨S2x32x64x1, .i32⟩
  | 96 => ⟨S2x32x64x1, .i32⟩
  | 97 => ⟨S_, .i32⟩
  | 98 => ⟨S2x32x64x1, .i32⟩
  | 99 => ⟨S2x32x64x1, .i32⟩
  | 100 => ⟨S2x32x64x1, .i32⟩
  | 101 => ⟨S2x32x64x1, .i32⟩
  | 102 => ⟨S2x32x64x1, .i32⟩
  | 103 => ⟨S1x1x1x3456, .i32⟩
  | 104 => ⟨S_, .i32⟩
  | 105 => ⟨S2x32x64x1, .i32⟩
  | 106 => ⟨S2x32x64x1, .i32⟩
  | 107 => ⟨S2x32x64x3456, .i32⟩
  | 108 => ⟨S2x32x64x3456, .i32⟩
  | 109 => ⟨S2x32x64x3456, .i32⟩
  | 110 => ⟨S2x32x64x3456, .i32⟩
  | 111 => ⟨S2x32x64x3456, .i32⟩
  | 112 => ⟨S_, .i32⟩
  | 113 => ⟨S2x32x64x3456, .i32⟩
  | 114 => ⟨S2x32x64x3456, .i32⟩
  | 115 => ⟨S2x32x64x3456, .i32⟩
  | 116 => ⟨S_, .i32⟩
  | 117 => ⟨S2x32x64x3456, .i32⟩
  | 118 => ⟨S2x32x64x3456, .i32⟩
  | 119 => ⟨S_, .i32⟩
  | 120 => ⟨S2x32x64x3456, .i32⟩
  | 121 => ⟨S2x32x64x3456, .i32⟩
  | 122 => ⟨S2x32x64x3456, .i32⟩
  | 123 => ⟨S_, .i32⟩
  | 124 => ⟨S2x32x64x3456, .i32⟩
  | 125 => ⟨S2x32x64x3456, .i32⟩
  | 126 => ⟨S_, .i32⟩
  | 127 => ⟨S2x32x64x3456, .i32⟩
  | _ => ⟨S2x2048x3456, .bf16⟩

abbrev hbmTy0_1 (i : Nat) : BufTy := match i % 128 with
  | 0 => ⟨S2x32x64x3456, .i32⟩
  | 1 => ⟨S2x32x64x3456, .i32⟩
  | 2 => ⟨S_, .i32⟩
  | 3 => ⟨S2x32x64x3456, .i32⟩
  | 4 => ⟨S2x32x64x3456, .i32⟩
  | 5 => ⟨S2x32x64x3456, .f32⟩
  | 6 => ⟨S_, .f32⟩
  | 7 => ⟨S2x32x64x3456, .f32⟩
  | 8 => ⟨S2x32x64x3456, .f32⟩
  | 9 => ⟨S2x32x64x3456, .f32⟩
  | 10 => ⟨S2x32x64x3456, .f32⟩
  | 11 => ⟨S_, .i32⟩
  | 12 => ⟨S_, .i32⟩
  | 13 => ⟨S_, .f32⟩
  | 14 => ⟨S2x32x64x3456, .f32⟩
  | 15 => ⟨S2x32x64x3456, .f32⟩
  | 16 => ⟨S_, .f32⟩
  | 17 => ⟨S2x32x64x3456, .f32⟩
  | 18 => ⟨S2x32x64x3456, .f32⟩
  | 19 => ⟨S2x32x64x3456, .i32⟩
  | 20 => ⟨S2x32x64x3456, .i8⟩
  | 21 => ⟨S4096x3456, .i8⟩
  | 22 => ⟨S2x32x108, .bf16⟩
  | 23 => ⟨S2x32x108x32, .bf16⟩
  | 24 => ⟨S2x32x3456, .bf16⟩
  | 25 => ⟨S4096x3456, .i32⟩
  | 26 => ⟨S4096x3456, .f32⟩
  | 27 => ⟨S4096x3456, .bf16⟩
  | 28 => ⟨S2x32x64x3456, .bf16⟩
  | 29 => ⟨S2x32x1x3456, .bf16⟩
  | 30 => ⟨S2x32x64x3456, .bf16⟩
  | 31 => ⟨S2x32x64x3456, .bf16⟩
  | 32 => ⟨S4096x3456, .bf16⟩
  | 33 => ⟨S64x108, .f32⟩
  | 34 => ⟨S3456x4096, .bf16⟩
  | _ => ⟨S2x2048x3456, .bf16⟩

abbrev hbmTy (i : Nat) : BufTy := match i / 128 with
  | 0 => hbmTy0_0 i
  | 1 => hbmTy0_1 i
  | _ => ⟨S2x2048x3456, .bf16⟩

abbrev bufTy : (tb : Table) → Fin (tcTables nBuf tb) → BufTy
  | .hbm, ⟨i, _⟩ => hbmTy i
  | _, _ => ⟨S2x2048x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_v32 : Ref sig .tc := ⟨.hbm, 49, rfl⟩
abbrev main_cst_12 : Ref sig .tc := ⟨.hbm, 50, rfl⟩
abbrev main_call1_v0 : Ref sig .tc := ⟨.hbm, 51, rfl⟩
abbrev main_call1_v1 : Ref sig .tc := ⟨.hbm, 52, rfl⟩
abbrev main_v33 : Ref sig .tc := ⟨.hbm, 53, rfl⟩
abbrev main_cst_13 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_cst_14 : Ref sig .tc := ⟨.hbm, 58, rfl⟩
abbrev main_call3_v0 : Ref sig .tc := ⟨.hbm, 59, rfl⟩
abbrev main_v35 : Ref sig .tc := ⟨.hbm, 60, rfl⟩
abbrev main_cst_15 : Ref sig .tc := ⟨.hbm, 61, rfl⟩
abbrev main_v36 : Ref sig .tc := ⟨.hbm, 62, rfl⟩
abbrev main_v37 : Ref sig .tc := ⟨.hbm, 63, rfl⟩
abbrev main_cst_16 : Ref sig .tc := ⟨.hbm, 64, rfl⟩
abbrev main_v38 : Ref sig .tc := ⟨.hbm, 65, rfl⟩
abbrev main_v39 : Ref sig .tc := ⟨.hbm, 66, rfl⟩
abbrev main_cst_17 : Ref sig .tc := ⟨.hbm, 67, rfl⟩
abbrev main_v40 : Ref sig .tc := ⟨.hbm, 68, rfl⟩
abbrev main_v41 : Ref sig .tc := ⟨.hbm, 69, rfl⟩
abbrev main_cst_18 : Ref sig .tc := ⟨.hbm, 70, rfl⟩
abbrev main_v42 : Ref sig .tc := ⟨.hbm, 71, rfl⟩
abbrev main_v43 : Ref sig .tc := ⟨.hbm, 72, rfl⟩
abbrev main_cst_19 : Ref sig .tc := ⟨.hbm, 73, rfl⟩
abbrev main_v44 : Ref sig .tc := ⟨.hbm, 74, rfl⟩
abbrev main_v45 : Ref sig .tc := ⟨.hbm, 75, rfl⟩
abbrev main_cst_20 : Ref sig .tc := ⟨.hbm, 76, rfl⟩
abbrev main_call4_v0 : Ref sig .tc := ⟨.hbm, 77, rfl⟩
abbrev main_call4_v1 : Ref sig .tc := ⟨.hbm, 78, rfl⟩
abbrev main_v46 : Ref sig .tc := ⟨.hbm, 79, rfl⟩
abbrev main_cst_21 : Ref sig .tc := ⟨.hbm, 80, rfl⟩
abbrev main_call5_v0 : Ref sig .tc := ⟨.hbm, 81, rfl⟩
abbrev main_call5_v1 : Ref sig .tc := ⟨.hbm, 82, rfl⟩
abbrev main_v47 : Ref sig .tc := ⟨.hbm, 83, rfl⟩
abbrev main_cst_22 : Ref sig .tc := ⟨.hbm, 84, rfl⟩
abbrev main_call6_v0 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_23 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_24 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_25 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_26 : Ref sig .tc := ⟨.hbm, 116, rfl⟩
abbrev main_v74 : Ref sig .tc := ⟨.hbm, 117, rfl⟩
abbrev main_v75 : Ref sig .tc := ⟨.hbm, 118, rfl⟩
abbrev main_c_27 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_28 : Ref sig .tc := ⟨.hbm, 123, rfl⟩
abbrev main_v79 : Ref sig .tc := ⟨.hbm, 124, rfl⟩
abbrev main_v80 : Ref sig .tc := ⟨.hbm, 125, rfl⟩
abbrev main_c_29 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_30 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_31 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_32 : Ref sig .tc := ⟨.hbm, 139, rfl⟩
abbrev main_c_33 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩

abbrev nD : Nat := 1
abbrev τ : Topo := Topo.v7x

variable {F : FTy → Type} [FloatOps F]
-- ==== Proof.DyFrame.lean ====
/- The call on dy, read at the machine's floats: it terminates without fault and leaves its arguments. -/
module

public import proofs.«01_k».proof.Defs
public import proofs.«01_k».proof.Proof.Gen.QuantDy
public import proofs.«01_k».proof.Proof.Gen.QuantDy.Loops
public import proofs.«01_k».proof.Proof.Gen.QuantDy.Frame
public import Idealize.ShloMosaic.Lib.Pipeline.DatRel
public import Idealize.ShloMosaic.Lib.Pipeline.ArrRel
public import Idealize.ShloMosaic.Lib.Claim

@[expose] public section

set_option maxRecDepth 16384

noncomputable section

namespace Cert.QuantDy.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Bits) ℕ (UR sig nD τ) ℕ

set_option maxHeartbeats 1000000 in
/-- The body's run: the inputs stay in place, the outputs are left holding something. -/
theorem kernelRun (c : Dev nD) (i : grid0.Coords)
    (arg1 : Memref sig .tc .smem S2 .i32) (harg1 : arg1.IsWhole)
    (arg2 : Memref sig .tc .vmem S4096x128 .bf16) (harg2 : arg2.IsWhole)
    (arg3 : Memref sig .tc .vmem S4096x128 .i8) (harg3 : arg3.IsWhole)
    (arg4 : Memref sig .tc .vmem S64x108 .f32) (harg4 : arg4.IsWhole)
    (arg5 : Memref sig .tc .vmem S128x4096 .bf16) (harg5 : arg5.IsWhole)
    (x0 : Vec Bits S2 .i32) (x1 : Vec Bits S4096x128 .bf16) (E : Set ℕ) (K : PUnit → sProp 𝕄) :
        iprop(owns (c : Thread nD τ) arg1 fullShare x0
            ∗ owns (c : Thread nD τ) arg2 fullShare x1
            ∗ (∃ d, owns (c : Thread nD τ) arg3 fullShare d)
            ∗ (∃ d, owns (c : Thread nD τ) arg4 fullShare d)
            ∗ (∃ d, owns (c : Thread nD τ) arg5 fullShare d)
            ∗ (iprop(owns (c : Thread nD τ) arg1 fullShare x0
            ∗ owns (c : Thread nD τ) arg2 fullShare x1
            ∗ (∃ d, owns (c : Thread nD τ) arg3 fullShare d)
            ∗ (∃ d, owns (c : Thread nD τ) arg4 fullShare d)
            ∗ (∃ d, owns (c : Thread nD τ) arg5 fullShare d)) -∗ K ⟨⟩))
          ⊢ wp frame (wpE (defs₀ (F := Bits)) Variants.none c none) E (cc0_quant_dy i arg1 harg1 arg2 harg2 arg3 harg3 arg4 harg4 arg5 harg5) K := by
  simp only [cc0_quant_dy_eq_skeleton]; unfold cc0_quant_dy_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; iexists _; isplitr; swap; · iexact H2
    ipureintro; rfl
  isplitl [H3]
  · iexists _; iexists _; isplitr; swap; · iexact H3
    ipureintro; rfl
  iexists _; iexists _; isplitr; swap; · iexact H4
  ipureintro; rfl

variable (m : (ℓ : Loc nD τ sig) → Buf (Elt Bits) ℓ) (ρ : Dev nD → PrngReg)

/-- The windows of which nothing is said: the outputs. -/
def marked : Fin 5 → Bool := fun w => w.val == 2 || w.val == 3 || w.val == 4

/-- Nothing is said of what the body leaves in an output. -/
def Leaves (w : Fin cfg0.W) (t : Fin cfg0.N) : ((cfg0.win w).block.Idx → Elt Bits (cfg0.win w).elt) → Prop := fun _ => True

/-- The proof data: the arrays as the region finds them, each input's block in place, nothing owed, full shares. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d

/-- The data with the outputs left open. -/
abbrev rdats (c : Dev nD) : Pipeline.RDat τ (Elt Bits) Unit ℕ (UR sig nD τ) ℕ cfg0 c := (dats m 0 c).toRRel marked Leaves

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, ⌜(rdats m c).Finds 2 t d⌝ ∗ owns (c : Thread nD τ) (win0_2.stage (cfg0.slots t 2)) fullShare d)
    ∗ (∃ d, ⌜(rdats m c).Finds 3 t d⌝ ∗ owns (c : Thread nD τ) (win0_3.stage (cfg0.slots t 3)) fullShare d)
    ∗ (∃ d, ⌜(rdats m c).Finds 4 t d⌝ ∗ owns (c : Thread nD τ) (win0_4.stage (cfg0.slots t 4)) fullShare d))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (∃ d, ⌜Leaves 2 t d⌝ ∗ owns (c : Thread nD τ) (win0_2.stage (cfg0.slots t 2)) fullShare d)
    ∗ (∃ d, ⌜Leaves 3 t d⌝ ∗ owns (c : Thread nD τ) (win0_3.stage (cfg0.slots t 3)) fullShare d)
    ∗ (∃ d, ⌜Leaves 4 t d⌝ ∗ owns (c : Thread nD τ) (win0_4.stage (cfg0.slots t 4)) fullShare d))

set_option maxHeartbeats 800000 in
/-- The body at any point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1]
  iintro ⟨HΦ, Ho, ⟨%d0, H0⟩, ⟨%d1, H1⟩, ⟨%d2, -, H2⟩, ⟨%d3, -, H3⟩, ⟨%d4, -, H4⟩⟩
  iapply ((kernelRun c (grid0.coords t) _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · iexists e2; isplitr; · ipureintro; exact trivial
    iexact H2
  isplitl [H3]
  · iexists e3; isplitr; · ipureintro; exact trivial
    iexact H3
  iexists e4; isplitr; · ipureintro; exact trivial
  iexact H4

theorem defs₀_row (t : Fin cfg0.N) :
    defs₀ (F := Bits) .tc cfg0.body (cfg0.bodyArgs t (cfg0.slots t)) = bodyAt0 t := by
  unfold defs₀; rw [Defs.onTc_tc]

theorem body_obligation (c : Dev nD) :
    Pipeline.BodyObligationRel (dats m 0 c) (defs₀ (F := Bits)) Variants.none () Set.univ marked Leaves := fun t => by
  rw [bigSep_W0, bigSep_W0, defs₀_row]
  exact triple_restated (sound_body m c t) rfl .rfl fun _ => .rfl

set_option backward.isDefEq.respectTransparency.types false in
/-- The run of the whole program, and every counter at zero at its end. -/
theorem run_main : θ_run defs (onTc (τ := τ) (main (F := Bits))) (s₀ m ρ)
    (fun r => (Pipeline.RDat.FramePost (cfgs 0) (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

end Cert.QuantDy.Gen

namespace Cert.Proof

open Idealize.ShloMosaic Idealize.ShloMosaic.TcCoe Idealize.SL.Sem Cert.QuantDy Cert.QuantDy.Gen

/-- The program runs without fault, leaves its arguments, and its counters end at zero. -/
theorem frame_dy : Cert.quiescent_QuantDy (hQuantDy := Cert.QuantDy.Gen.facts) := fun m ρ _ => by
  refine (θ_run (Cert.QuantDy.defs (F := Bits)) _ _).mono (fun r h => ⟨fun c => ?_, h.2⟩) (run_main m ρ)
  exact ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩

end Cert.Proof

end
-- ==== Proof.KFrame.lean ====
/- The main call, read at the machine's floats: it terminates without fault and leaves its arguments. -/
module

public import proofs.«01_k».proof.Defs
public import proofs.«01_k».proof.Proof.Gen.Kernel
public import proofs.«01_k».proof.Proof.Gen.Kernel.Loops
public import proofs.«01_k».proof.Proof.Gen.Kernel.Frame
public import Idealize.ShloMosaic.Lib.Pipeline.DatRel
public import Idealize.ShloMosaic.Lib.Pipeline.ArrRel
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Bits) ℕ (UR sig nD τ) ℕ

set_option maxHeartbeats 1000000 in
/-- The body's run at the first point of a column: the inputs stay in place, the outputs and the scratch are left holding something. -/
theorem kernelRun_A (c : Dev nD) (i : grid0.Coords)
    (arg2 : Memref sig .tc .smem S2 .i32) (harg2 : arg2.IsWhole)
    (arg3 : Memref sig .tc .vmem S4096x512 .bf16) (harg3 : arg3.IsWhole)
    (arg4 : Memref sig .tc .vmem S3456x4096 .bf16) (harg4 : arg4.IsWhole)
    (arg5 : Memref sig .tc .vmem S4096x512 .i8) (harg5 : arg5.IsWhole)
    (arg6 : Memref sig .tc .vmem S64x384 .f32) (harg6 : arg6.IsWhole)
    (arg7 : Memref sig .tc .vmem S512x384 .f32) (harg7 : arg7.IsWhole)
    (arg8 : Memref sig .tc .vmem S4096x512 .bf16) (harg8 : arg8.IsWhole)
    (hc0 : k0_cond1 i = 1#1)
    (x0 : Vec Bits S2 .i32) (x1 : Vec Bits S4096x512 .bf16) (x2 : Vec Bits S3456x4096 .bf16) (E : Set ℕ) (K : PUnit → sProp 𝕄) :
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ (iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)) -∗ K ⟨⟩))
          ⊢ wp frame (wpE (defs₀ (F := Bits)) Variants.none c none) E (cc0_quant_x_dw i arg2 harg2 arg3 harg3 arg4 harg4 arg5 harg5 arg6 harg6 arg7 harg7 arg8 harg8) K := by
  simp only [cc0_quant_x_dw_eq_skeleton]; unfold cc0_quant_x_dw_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  iexists _; iexists _; isplitr; swap; · iexact H6
  ipureintro; rfl

set_option maxHeartbeats 1000000 in
/-- The same at the other points. -/
theorem kernelRun_B (c : Dev nD) (i : grid0.Coords)
    (arg2 : Memref sig .tc .smem S2 .i32) (harg2 : arg2.IsWhole)
    (arg3 : Memref sig .tc .vmem S4096x512 .bf16) (harg3 : arg3.IsWhole)
    (arg4 : Memref sig .tc .vmem S3456x4096 .bf16) (harg4 : arg4.IsWhole)
    (arg5 : Memref sig .tc .vmem S4096x512 .i8) (harg5 : arg5.IsWhole)
    (arg6 : Memref sig .tc .vmem S64x384 .f32) (harg6 : arg6.IsWhole)
    (arg7 : Memref sig .tc .vmem S512x384 .f32) (harg7 : arg7.IsWhole)
    (arg8 : Memref sig .tc .vmem S4096x512 .bf16) (harg8 : arg8.IsWhole)
    (hc0 : ¬k0_cond1 i = 1#1)
    (x0 : Vec Bits S2 .i32) (x1 : Vec Bits S4096x512 .bf16) (x2 : Vec Bits S3456x4096 .bf16) (E : Set ℕ) (K : PUnit → sProp 𝕄) :
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ (iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)) -∗ K ⟨⟩))
          ⊢ wp frame (wpE (defs₀ (F := Bits)) Variants.none c none) E (cc0_quant_x_dw i arg2 harg2 arg3 harg3 arg4 harg4 arg5 harg5 arg6 harg6 arg7 harg7 arg8 harg8) K := by
  simp only [cc0_quant_x_dw_eq_skeleton]; unfold cc0_quant_x_dw_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  iexists _; iexists _; isplitr; swap; · iexact H6
  ipureintro; rfl

variable (m : (ℓ : Loc nD τ sig) → Buf (Elt Bits) ℓ) (ρ : Dev nD → PrngReg)

theorem first_iff : ∀ t : Fin cfg0.N, k0_cond1 (grid0.coords t) = 1#1 ↔ t.val % 9 = 0 := by decide +kernel

/-- The scratch of the body. -/
abbrev scratch : Memref sig .tc .vmem S4096x512 .bf16 := Memref.whole cc0_scratch0

theorem PhiA_eq (c : Dev nD) : (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The windows of which nothing is said: the outputs. -/
def marked : Fin 6 → Bool := fun w => w.val == 3 || w.val == 4 || w.val == 5

/-- Nothing is said of what the body leaves in an output. -/
def Leaves (w : Fin cfg0.W) (t : Fin cfg0.N) : ((cfg0.win w).block.Idx → Elt Bits (cfg0.win w).elt) → Prop := fun _ => True

/-- The proof data: the arrays as the region finds them, each input's block in place, nothing owed, full shares. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

/-- The data with the outputs left open. -/
abbrev rdats (c : Dev nD) : Pipeline.RDat τ (Elt Bits) Unit ℕ (UR sig nD τ) ℕ cfg0 c := (dats m 0 c).toRRel marked Leaves

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, ⌜(rdats m c).Finds 3 t d⌝ ∗ owns (c : Thread nD τ) (win0_3.stage (cfg0.slots t 3)) fullShare d)
    ∗ (∃ d, ⌜(rdats m c).Finds 4 t d⌝ ∗ owns (c : Thread nD τ) (win0_4.stage (cfg0.slots t 4)) fullShare d)
    ∗ (∃ d, ⌜(rdats m c).Finds 5 t d⌝ ∗ owns (c : Thread nD τ) (win0_5.stage (cfg0.slots t 5)) fullShare d))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ d, ⌜Leaves 3 t d⌝ ∗ owns (c : Thread nD τ) (win0_3.stage (cfg0.slots t 3)) fullShare d)
    ∗ (∃ d, ⌜Leaves 4 t d⌝ ∗ owns (c : Thread nD τ) (win0_4.stage (cfg0.slots t 4)) fullShare d)
    ∗ (∃ d, ⌜Leaves 5 t d⌝ ∗ owns (c : Thread nD τ) (win0_5.stage (cfg0.slots t 5)) fullShare d))

set_option maxHeartbeats 800000 in
/-- The body at any point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, PhiA_eq]
  iintro ⟨⟨HS, Hg⟩, Ho, ⟨%d0, H0⟩, ⟨%d1, H1⟩, ⟨%d2, H2⟩, ⟨%d3, -, H3⟩, ⟨%d4, -, H4⟩, ⟨%d5, -, H5⟩⟩
  by_cases h0 : t.val % 9 = 0
  · iapply ((kernelRun_A c (grid0.coords t) _ _ _ _ _ _ _ _ _ _ _ _ _ _ ((first_iff t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, ⟨%e3, H3⟩, ⟨%e4, H4⟩, ⟨%e5, H5⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]
    · iexists e3; isplitr; · ipureintro; exact trivial
      iexact H3
    isplitl [H4]
    · iexists e4; isplitr; · ipureintro; exact trivial
      iexact H4
    iexists e5; isplitr; · ipureintro; exact trivial
    iexact H5
  · iapply ((kernelRun_B c (grid0.coords t) _ _ _ _ _ _ _ _ _ _ _ _ _ _ (fun h => h0 ((first_iff t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, ⟨%e3, H3⟩, ⟨%e4, H4⟩, ⟨%e5, H5⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]
    · iexists e3; isplitr; · ipureintro; exact trivial
      iexact H3
    isplitl [H4]
    · iexists e4; isplitr; · ipureintro; exact trivial
      iexact H4
    iexists e5; isplitr; · ipureintro; exact trivial
    iexact H5

theorem defs₀_row (t : Fin cfg0.N) :
    defs₀ (F := Bits) .tc cfg0.body (cfg0.bodyArgs t (cfg0.slots t)) = bodyAt0 t := by
  unfold defs₀; rw [Defs.onTc_tc]

theorem body_obligation (c : Dev nD) :
    Pipeline.BodyObligationRel (dats m 0 c) (defs₀ (F := Bits)) Variants.none () Set.univ marked Leaves := fun t => by
  rw [bigSep_W0, bigSep_W0, defs₀_row]
  exact triple_restated (sound_body m c t) rfl .rfl fun _ => .rfl

set_option backward.isDefEq.respectTransparency.types false in
/-- The run of the whole program, and every counter at zero at its end. -/
theorem run_main : θ_run defs (onTc (τ := τ) (main (F := Bits))) (s₀ m ρ)
    (fun r => (Pipeline.RDat.FramePost (cfgs 0) (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

end Cert.Kernel.Gen

namespace Cert.Proof

open Idealize.ShloMosaic Idealize.ShloMosaic.TcCoe Idealize.SL.Sem Cert.Kernel Cert.Kernel.Gen

/-- The program runs without fault, leaves its arguments, and its counters end at zero. -/
theorem frame_k : Cert.quiescent_Kernel (hKernel := Cert.Kernel.Gen.facts) := fun m ρ _ => by
  refine (θ_run (Cert.Kernel.defs (F := Bits)) _ _).mono (fun r h => ⟨fun c => ?_, h.2⟩) (run_main m ρ)
  exact ⟨((h.1 c).2 main_arg0 (Pipeline.mem_restRefs_of main_arg0 (by decide) (by decide))).trans (V_main_arg0 m c),
    (Pipeline.RDat.FramePost.arr_in h.1 c 2 rfl).trans ((A_eq m c 2).trans (V_main_arg1 m c)),
    ((h.1 c).2 main_arg2 (Pipeline.mem_restRefs_of main_arg2 (by decide) (by decide))).trans (V_main_arg2 m c)⟩

end Cert.Proof

end
-- ==== Proof.Tile.lean ====
/- The tile quantiser that both kernels run, in the kernels' own operations and at the extended reals: 512 rows by
   128 lanes are quantised in blocks of 64 rows by 32 lanes. Each definition is one step of it; the modules about the
   two programs show that their payloads are these definitions, and `TileValue` reads them at an index. -/
module

public import Idealize.ShloMosaic.Lib.Pointwise

@[expose] public section

noncomputable section

namespace Cert.Tile

open Idealize.ShloMosaic

abbrev S8x128 : Shape := ⟨2, ![8, 128]⟩
abbrev S8x128x1 : Shape := ⟨3, ![8, 128, 1]⟩
abbrev S8x1x128 : Shape := ⟨3, ![8, 1, 128]⟩
abbrev S8x64x128 : Shape := ⟨3, ![8, 64, 128]⟩
abbrev S512x128 : Shape := ⟨2, ![512, 128]⟩

theorem iota_lane : S8x128.Iotas .tc 32 [1] := by decide
theorem iota_row : S512x128.Iotas .tc 32 [0] := by decide
theorem iota_col : S512x128.Iotas .tc 32 [1] := by decide
theorem casts_rows : S512x128.ShapeCasts S8x64x128 := by decide
theorem casts_flat : S8x64x128.ShapeCasts S512x128 := by decide
theorem casts_same : S512x128.ShapeCasts S512x128 := by decide
theorem casts_mid : S8x128.ShapeCasts S8x1x128 := by decide
theorem casts_out : S8x128.ShapeCasts S8x128x1 := by decide
theorem casts_in : S8x128x1.ShapeCasts S8x128 := by decide
theorem spreads : S8x1x128.Broadcasts S8x64x128 := by decide
theorem reduces : S8x64x128.Reduces [1] S8x128 := by decide
theorem rotates : S8x128.Rotates 1 none := by decide
theorem bits_bf16 : FTy.bits .bf16 < FTy.bits .f32 := by decide
theorem bits_i8 : 8 < 32 := by decide

/-- The lane number of each element. -/
def lane : IVec S8x128 32 := iota .tc S8x128 32 [1] iota_lane

/-- One number at every element. -/
abbrev all (b : BitVec 32) : IVec S8x128 32 := broadcast S8x128 b

/-- The greatest magnitude over each 64 rows, lane by lane. -/
def rowMax (v : FVec Ideal S512x128 .bf16) : FVec Ideal S8x128 .f32 :=
  multiReduction .maximumf [1] S8x128 (shapeCast S8x64x128 (absf (extf .f32 v bits_bf16)) casts_rows) 0xFF800000#32 reduces (.inl rfl) rfl

/-- One step of the maximum over lanes: each lane takes in the lane whose number differs in bit `s` (`r` is `128 - s`). -/
def fold (s r : BitVec 32) (a : FVec Ideal S8x128 .f32) : FVec Ideal S8x128 .f32 :=
  maximumf a (select (cmpi .eq (andi lane (all s)) (all 0#32)) (dynamicRotate 1 r none a rotates) (dynamicRotate 1 s none a rotates))

/-- The maximum over each aligned 32 lanes, in every one of them. -/
def groupMax (a : FVec Ideal S8x128 .f32) : FVec Ideal S8x128 .f32 :=
  fold 16#32 112#32 (fold 8#32 120#32 (fold 4#32 124#32 (fold 2#32 126#32 (fold 1#32 127#32 a))))

/-- One bit of the search for the exponent: `bit` is added where the power of two of the sum is not above `a`. -/
def expStep (a : FVec Ideal S8x128 .f32) (bit : BitVec 32) (e : IVec S8x128 32) : IVec S8x128 32 :=
  select (cmpf .olt a (bitcastToFloat .f32 (shli (addi e (all bit)) (all 23#32)))) e (addi e (all bit))

/-- The biased exponent. -/
def expo (a : FVec Ideal S8x128 .f32) : IVec S8x128 32 :=
  expStep a 1#32 (expStep a 2#32 (expStep a 4#32 (expStep a 8#32 (expStep a 16#32 (expStep a 32#32
    (expStep a 64#32 (expStep a 128#32 (all 0#32))))))))

/-- The exponent of the block's scale before the seven bits of the codes are taken off: 0 where there is none. -/
def shift (e : IVec S8x128 32) : IVec S8x128 32 :=
  select (ori (cmpi .eq e (all 0#32)) (cmpi .eq e (all 255#32))) (all 0#32) (subi e (all 126#32))

/-- The power of two whose exponent is `n`: 0 below the least normal one, the infinity above the greatest. -/
def pow2 (n : IVec S8x128 32) : FVec Ideal S8x128 .f32 :=
  bitcastToFloat .f32 (shli (minsi (all 255#32) (maxsi (all 0#32) (addi n (all 127#32)))) (all 23#32))

/-- The scale, from the biased exponent. -/
def scale (e : IVec S8x128 32) : FVec Ideal S8x128 .f32 :=
  select (cmpi .ne e (all 0#32)) (pow2 (subi (shift e) (all 7#32))) (broadcast S8x128 (Scalar.ofBits .f32 0x3F800000#32))

/-- The multiplier, from the biased exponent. -/
def mult (e : IVec S8x128 32) : FVec Ideal S8x128 .f32 :=
  select (cmpi .ne e (all 0#32)) (pow2 (subi (all 7#32) (shift e))) (broadcast S8x128 (Scalar.ofBits .f32 0x3F800000#32))

/-- The values times the multiplier of their block. -/
def scaled (v : FVec Ideal S512x128 .bf16) (m : FVec Ideal S8x128 .f32) : FVec Ideal S512x128 .f32 :=
  shapeCast S512x128 (mulf (shapeCast S8x64x128 (extf .f32 v bits_bf16) casts_rows)
    (broadcastTo S8x64x128 (shapeCast S8x1x128 m casts_mid) spreads)) casts_flat

/-- One number at every element of the tile. -/
abbrev full (b : BitVec 32) : IVec S512x128 32 := broadcast S512x128 b

/-- The element's number in the whole array, mixed with the seed. -/
def key (width tok col seed : BitVec 32) : IVec S512x128 32 :=
  xori (addi (addi (muli (iota .tc S512x128 32 [0] iota_row) (full width)) (iota .tc S512x128 32 [1] iota_col))
    (full (Scalar.addi (Scalar.muli tok width) col))) (full seed)

/-- The hash of the keys. -/
def mix (k : IVec S512x128 32) : IVec S512x128 32 :=
  let a := muli (xori k (shrui k (full 16#32))) (full 2146121005#32)
  let b := muli (xori a (shrui a (full 15#32))) (full 2221713035#32)
  shrui (xori b (shrui b (full 16#32))) (full 8#32)

/-- The rounded and clipped value. -/
def quant (y : FVec Ideal S512x128 .f32) (h : IVec S512x128 32) : FVec Ideal S512x128 .f32 :=
  minimumf (broadcast S512x128 (Scalar.ofBits .f32 0x42FE0000#32)) (maximumf (broadcast S512x128 (Scalar.ofBits .f32 0xC2FE0000#32))
    (floor (addf y (mulf (sitofp .f32 h) (broadcast S512x128 (Scalar.ofBits .f32 0x33800000#32))))))

/-- The biased exponent of each block's greatest magnitude. -/
def blockExpo (v : FVec Ideal S512x128 .bf16) : IVec S8x128 32 := expo (groupMax (rowMax v))

/-- The rounded values of a tile. -/
def tileQuant (v : FVec Ideal S512x128 .bf16) (width tok col seed : BitVec 32) : FVec Ideal S512x128 .f32 :=
  quant (scaled v (mult (blockExpo v))) (mix (key width tok col seed))

/-- The codes of a tile. -/
def tileCodes (v : FVec Ideal S512x128 .bf16) (width tok col seed : BitVec 32) : IVec S512x128 8 :=
  trunci 8 (fptosi 32 (roundeven (tileQuant v width tok col seed))) bits_i8

/-- The scales of a tile, in every lane of their block. -/
def tileScale (v : FVec Ideal S512x128 .bf16) : FVec Ideal S8x128 .f32 := scale (blockExpo v)

/-- The dequantised tile. -/
def tileDeq (v : FVec Ideal S512x128 .bf16) (width tok col seed : BitVec 32) : FVec Ideal S512x128 .bf16 :=
  shapeCast S512x128 (mulf (shapeCast S8x64x128 (truncf .bf16 (tileQuant v width tok col seed) bits_bf16) casts_rows)
    (broadcastTo S8x64x128 (shapeCast S8x1x128 (truncf .bf16 (tileScale v) bits_bf16) casts_mid) spreads)) casts_flat

/-- The lane from which each lane of the compacted scales is taken. -/
def pick : IVec S8x128 32 :=
  let idx := muli (andi lane (all 3#32)) (all 32#32)
  shapeCast S8x128 (shapeCast S8x128x1 (select (cmpi .slt idx (all 0#32)) (addi idx (all 128#32)) idx) casts_out) casts_in

/-- The scales compacted: lane `l` takes the scale of block `l mod 4` of the tile. -/
def compact (s : FVec Ideal S8x128 .f32) : FVec Ideal S8x128 .f32 := dynamicGather 1 s pick

/-- The lanes whose number over four is `n`: where the tile numbered `n` puts its four scales. -/
def mine (n : BitVec 32) : IVec S8x128 1 := cmpi .eq (shrsi lane (all 2#32)) (all n)

end Cert.Tile

end
-- ==== Proof.Expo.lean ====
/- The exponent of a block's greatest magnitude, as one number. The kernel finds it by comparing against powers of two,
   the reference by the logarithm to base two; `kerScale_eq` and `kerMult_eq` say that the scales and the multipliers
   that follow are equal. -/
module

public import Idealize.ShloMosaic.PureOps.Ideal
public import Idealize.ShloMosaic.Lib.IdealHost

@[expose] public section

set_option maxRecDepth 16384

noncomputable section

namespace Cert.Tile

open Idealize.ShloMosaic

/-! ### The powers of two -/

/-- The number whose exponent field is `n` and whose other fields are zero. -/
def thr (n : ℕ) : EReal := Ideal.ofBits .f32 (BitVec.ofNat 32 n <<< 23)

theorem fields : ∀ n : Fin 256, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

theorem thr_zero : thr 0 = 0 := by
  obtain ⟨h1, h2, h3⟩ := fields ⟨0, by decide⟩
  unfold thr
  simp only [Ideal.ofBits, Ideal.ieee, Nat.reduceAdd, h1, h2, h3]
  simp

theorem thr_top : thr 255 = ⊤ := by
  obtain ⟨h1, h2, h3⟩ := fields ⟨255, by decide⟩
  unfold thr
  simp only [Ideal.ofBits, Ideal.ieee, Nat.reduceAdd, h1, h2, h3]
  simp

/-- A normal number's value from its fields. -/
theorem ofBits_normal (b : BitVec 32) (neg : Bool) (ex fr : ℕ) (h1 : (b.extractLsb' 31 1 == 1#1) = neg)
    (h2 : (b.extractLsb' 23 8).toNat = ex) (h3 : (b.extractLsb' 0 23).toNat = fr) (h4 : ex ≠ 255) (h5 : ex ≠ 0) :
    Ideal.ofBits .f32 b = (((if neg then -1 else 1) * (2 ^ 23 + fr : ℕ) * (2 : ℝ) ^ ((ex : ℤ) - 127 - 23) : ℝ) : EReal) := by
  simp only [Ideal.ofBits, Ideal.ieee, Nat.reduceAdd, h1, h2, h3]
  rw [if_neg (by omega), if_neg h5]
  norm_num

theorem thr_mid {n : ℕ} (h0 : 1 ≤ n) (h1 : n ≤ 254) : thr n = (((2 : ℝ) ^ ((n : ℤ) - 127) : ℝ) : EReal) := by
  have hf := fields ⟨n, by omega⟩
  have e := ofBits_normal (BitVec.ofNat 32 n <<< 23) false n 0 (beq_eq_false_iff_ne.mpr (by rw [hf.1]; decide)) hf.2.1 hf.2.2 (by omega) (by omega)
  refine (show thr n = _ from e).trans ?_
  congr 1
  rw [if_neg (by decide), one_mul, show ((2 ^ 23 + 0 : ℕ) : ℝ) = (2 : ℝ) ^ (23 : ℤ) by norm_num, ← zpow_add₀ (by norm_num : (2 : ℝ) ≠ 0)]
  congr 1
  ring

theorem thr_mono {m n : ℕ} (h : m ≤ n) (hn : n ≤ 255) : thr m ≤ thr n := by
  rcases Nat.eq_zero_or_pos m with rfl | hm
  · rcases Nat.eq_zero_or_pos n with rfl | hn0
    · exact le_rfl
    · rcases Nat.lt_or_ge n 255 with h1 | h1
      · rw [thr_zero, thr_mid hn0 (by omega)]
        exact_mod_cast (zpow_pos (by norm_num : (0 : ℝ) < 2) _).le
      · rw [show n = 255 by omega, thr_top]; exact le_top
  · rcases Nat.lt_or_ge n 255 with h1 | h1
    · rw [thr_mid hm (by omega), thr_mid (by omega) (by omega)]
      exact EReal.coe_le_coe_iff.mpr (zpow_le_zpow_right₀ (by norm_num : (1 : ℝ) ≤ 2) (by omega))
    · rw [show n = 255 by omega, thr_top]; exact le_top

/-! ### The biased exponent -/

open Classical in
/-- The biased exponent of `a`: the greatest field whose power of two is not above `a`, 0 where there is none. -/
def bexp (a : EReal) : ℕ := Nat.findGreatest (fun n => thr n ≤ a) 255

theorem bexp_le (a : EReal) : bexp a ≤ 255 := Nat.findGreatest_le _

theorem thr_bexp {a : EReal} (h : bexp a ≠ 0) : thr (bexp a) ≤ a := by
  classical
  exact Nat.findGreatest_of_ne_zero (P := fun n => thr n ≤ a) (n := 255) rfl h

theorem lt_thr_iff {a : EReal} {n : ℕ} (h0 : 1 ≤ n) (h1 : n ≤ 255) : a < thr n ↔ bexp a < n := by
  classical
  constructor
  · intro h
    by_contra hc
    have hb : bexp a ≠ 0 := by omega
    exact absurd (lt_of_lt_of_le h ((thr_mono (by omega) (bexp_le a)).trans (thr_bexp hb))) (lt_irrefl _)
  · intro h
    by_contra hc
    exact absurd (Nat.le_findGreatest (P := fun n => thr n ≤ a) h1 (not_lt.mp hc)) (by unfold bexp at h; omega)

/-! ### The kernel's search -/

/-- One bit of the search, at one element. -/
def expStep1 (a : EReal) (bit e : BitVec 32) : BitVec 32 := if a < Ideal.ofBits .f32 ((e + bit) <<< 23) then e else e + bit

/-- The search, at one element. -/
def expo1 (a : EReal) : BitVec 32 :=
  expStep1 a 1#32 (expStep1 a 2#32 (expStep1 a 4#32 (expStep1 a 8#32 (expStep1 a 16#32 (expStep1 a 32#32
    (expStep1 a 64#32 (expStep1 a 128#32 0#32)))))))

/-- One bit of the search for a number that is known. -/
def stepN (b bit e : ℕ) : ℕ := if b < e + bit then e else e + bit

theorem stepN_le (b bit e : ℕ) : stepN b bit e ≤ e + bit := by unfold stepN; split <;> omega

theorem expStep1_eq (a : EReal) {bit e : ℕ} (h0 : 1 ≤ bit) (h1 : e + bit ≤ 255) :
    expStep1 a (BitVec.ofNat 32 bit) (BitVec.ofNat 32 e) = BitVec.ofNat 32 (stepN (bexp a) bit e) := by
  have hs : (BitVec.ofNat 32 e + BitVec.ofNat 32 bit) = BitVec.ofNat 32 (e + bit) := by
    apply BitVec.eq_of_toNat_eq; simp
  unfold expStep1 stepN
  rw [hs]
  have := lt_thr_iff (a := a) (n := e + bit) (by omega) h1
  unfold thr at this
  by_cases h : bexp a < e + bit
  · rw [if_pos h, if_pos (this.mpr h)]
  · rw [if_neg h, if_neg (fun hc => h (this.mp hc))]

theorem search : ∀ b : Fin 256, stepN b 1 (stepN b 2 (stepN b 4 (stepN b 8 (stepN b 16 (stepN b 32 (stepN b 64 (stepN b 128 0))))))) = b.val := by
  decide +kernel

/-- The search finds the biased exponent. -/
theorem expo1_eq (a : EReal) : expo1 a = BitVec.ofNat 32 (bexp a) := by
  have hb := search ⟨bexp a, by have := bexp_le a; omega⟩
  simp only at hb
  conv_rhs => rw [← hb]
  unfold expo1
  have l (bit e : ℕ) := stepN_le (bexp a) bit e
  have e1 := l 128 0
  have e2 := l 64 (stepN (bexp a) 128 0)
  generalize hx1 : stepN (bexp a) 128 0 = x1 at *
  have e3 := l 32 (stepN (bexp a) 64 x1)
  generalize hx2 : stepN (bexp a) 64 x1 = x2 at *
  have e4 := l 16 (stepN (bexp a) 32 x2)
  generalize hx3 : stepN (bexp a) 32 x2 = x3 at *
  have e5 := l 8 (stepN (bexp a) 16 x3)
  generalize hx4 : stepN (bexp a) 16 x3 = x4 at *
  have e6 := l 4 (stepN (bexp a) 8 x4)
  generalize hx5 : stepN (bexp a) 8 x4 = x5 at *
  have e7 := l 2 (stepN (bexp a) 4 x5)
  generalize hx6 : stepN (bexp a) 4 x5 = x6 at *
  have e8 := l 1 (stepN (bexp a) 2 x6)
  generalize hx7 : stepN (bexp a) 2 x6 = x7 at *
  rw [expStep1_eq a (bit := 128) (e := 0) (by omega) (by omega), hx1, expStep1_eq a (bit := 64) (by omega) (by omega), hx2,
    expStep1_eq a (bit := 32) (by omega) (by omega), hx3, expStep1_eq a (bit := 16) (by omega) (by omega), hx4,
    expStep1_eq a (bit := 8) (by omega) (by omega), hx5, expStep1_eq a (bit := 4) (by omega) (by omega), hx6,
    expStep1_eq a (bit := 2) (by omega) (by omega), hx7, expStep1_eq a (bit := 1) (by omega) (by omega)]

/-! ### The kernel's scale and multiplier -/

/-- The exponent of the scale before the bits of the codes are taken off, at one element. -/
def shift1 (e : BitVec 32) : BitVec 32 := if e = 0#32 ∨ e = 255#32 then 0#32 else e - 126#32

/-- The exponent field of the power of two, at one element. -/
def field1 (n : BitVec 32) : BitVec 32 := IntOp.minsi 255#32 (IntOp.maxsi 0#32 (n + 127#32))

/-- The scale, at one element, from the biased exponent. -/
def scale1 (e : BitVec 32) : EReal := if e = 0#32 then 1 else Ideal.ofBits .f32 (field1 (shift1 e - 7#32) <<< 23)

/-- The multiplier, at one element, from the biased exponent. -/
def mult1 (e : BitVec 32) : EReal := if e = 0#32 then 1 else Ideal.ofBits .f32 (field1 (7#32 - shift1 e) <<< 23)

/-- The scale of a block whose greatest magnitude is `a`. -/
def kerScale (a : EReal) : EReal := scale1 (expo1 a)

/-- The multiplier of a block whose greatest magnitude is `a`. -/
def kerMult (a : EReal) : EReal := mult1 (expo1 a)

theorem ofNat_zero_iff : ∀ n : Fin 256, BitVec.ofNat 32 n.val = 0#32 ↔ n.val = 0 := by decide +kernel

theorem field_scale : ∀ n : Fin 256, n.val ≠ 0 →
    field1 (shift1 (BitVec.ofNat 32 n.val) - 7#32) = BitVec.ofNat 32 (if n.val = 255 then 120 else n.val - 6) := by decide +kernel

theorem field_mult : ∀ n : Fin 256, n.val ≠ 0 →
    field1 (7#32 - shift1 (BitVec.ofNat 32 n.val)) = BitVec.ofNat 32 (if n.val = 255 then 134 else min 255 (260 - n.val)) := by decide +kernel

theorem kerScale_thr (a : EReal) : kerScale a = if bexp a = 0 then 1 else thr (if bexp a = 255 then 120 else bexp a - 6) := by
  have hb := bexp_le a
  unfold kerScale scale1
  rw [expo1_eq]
  by_cases h : bexp a = 0
  · rw [h]; simp
  · rw [if_neg h, if_neg (fun hc => h ((ofNat_zero_iff ⟨bexp a, by omega⟩).mp hc)), field_scale ⟨bexp a, by omega⟩ h]; rfl

theorem kerMult_thr (a : EReal) : kerMult a = if bexp a = 0 then 1 else thr (if bexp a = 255 then 134 else min 255 (260 - bexp a)) := by
  have hb := bexp_le a
  unfold kerMult mult1
  rw [expo1_eq]
  by_cases h : bexp a = 0
  · rw [h]; simp
  · rw [if_neg h, if_neg (fun hc => h ((ofNat_zero_iff ⟨bexp a, by omega⟩).mp hc)), field_mult ⟨bexp a, by omega⟩ h]; rfl

/-! ### The reference's scale and multiplier -/

/-- The exponent, as the reference takes it from the logarithm. -/
def refExp (a : Ideal .f32) : Ideal .f32 :=
  Scalar.select (IntOp.andi (FloatOps.cmpf .oge a (FloatOps.ofBits .f32 0x00800000#32)) (FloatOps.cmpf .olt a (FloatOps.ofBits .f32 0x7F800000#32)))
    (FloatOps.minimumf (FloatOps.addf (FloatOps.hostUnary .floor (FloatOps.hostDivf (FloatOps.hostUnary .log a)
      (FloatOps.hostUnary .log (FloatOps.ofBits .f32 0x40000000#32)))) (FloatOps.ofBits .f32 0x3F800000#32)) (FloatOps.ofBits .f32 0x43000000#32))
    (FloatOps.ofBits .f32 0x00000000#32)

/-- The power of two with exponent `n`, as the reference takes it: 0 and the infinity outside the normal range. -/
def refPow (n : Ideal .f32) : Ideal .f32 :=
  Scalar.select (FloatOps.cmpf .olt n (FloatOps.ofBits .f32 0xC2FC0000#32)) (FloatOps.ofBits .f32 0x00000000#32)
    (Scalar.select (FloatOps.cmpf .ogt n (FloatOps.ofBits .f32 0x42FE0000#32)) (FloatOps.ofBits .f32 0x7F800000#32)
      (FloatOps.hostPowf (FloatOps.ofBits .f32 0x40000000#32) n))

/-- The reference's scale. -/
def refScale (a : Ideal .f32) : Ideal .f32 :=
  Scalar.select (FloatOps.cmpf .oge a (FloatOps.ofBits .f32 0x00800000#32))
    (refPow (FloatOps.subf (refExp a) (FloatOps.ofBits .f32 0x40E00000#32))) (FloatOps.ofBits .f32 0x3F800000#32)

/-- The reference's multiplier. -/
def refMult (a : Ideal .f32) : Ideal .f32 :=
  Scalar.select (FloatOps.cmpf .oge a (FloatOps.ofBits .f32 0x00800000#32))
    (refPow (FloatOps.subf (FloatOps.ofBits .f32 0x40E00000#32) (refExp a))) (FloatOps.ofBits .f32 0x3F800000#32)

theorem bits_two : Ideal.ofBits .f32 0x40000000#32 = ((2 : ℝ) : EReal) := by
  rw [ofBits_normal _ false 128 0 (by decide) (by decide) (by decide) (by decide) (by decide)]; norm_num
theorem bits_seven : Ideal.ofBits .f32 0x40E00000#32 = ((7 : ℝ) : EReal) := by
  rw [ofBits_normal _ false 129 6291456 (by decide) (by decide) (by decide) (by decide) (by decide)]; norm_num
theorem bits_128 : Ideal.ofBits .f32 0x43000000#32 = ((128 : ℝ) : EReal) := by
  rw [ofBits_normal _ false 134 0 (by decide) (by decide) (by decide) (by decide) (by decide)]; norm_num
theorem bits_127 : Ideal.ofBits .f32 0x42FE0000#32 = ((127 : ℝ) : EReal) := by
  rw [ofBits_normal _ false 133 8257536 (by decide) (by decide) (by decide) (by decide) (by decide)]; norm_num
theorem bits_m127 : Ideal.ofBits .f32 0xC2FE0000#32 = ((-127 : ℝ) : EReal) := by
  rw [ofBits_normal _ true 133 8257536 (by decide) (by decide) (by decide) (by decide) (by decide)]; norm_num
theorem bits_m126 : Ideal.ofBits .f32 0xC2FC0000#32 = ((-126 : ℝ) : EReal) := by
  rw [ofBits_normal _ true 133 8126464 (by decide) (by decide) (by decide) (by decide) (by decide)]; norm_num
theorem bits_one : Ideal.ofBits .f32 0x3F800000#32 = ((1 : ℝ) : EReal) := by
  rw [ofBits_normal _ false 127 0 (by decide) (by decide) (by decide) (by decide) (by decide)]; norm_num
theorem bits_zero : Ideal.ofBits .f32 0x00000000#32 = ((0 : ℝ) : EReal) := by
  rw [show (0x00000000#32) = BitVec.ofNat 32 0 <<< 23 by decide]; exact thr_zero
theorem bits_top : Ideal.ofBits .f32 0x7F800000#32 = ⊤ := by
  rw [show (0x7F800000#32) = BitVec.ofNat 32 255 <<< 23 by decide]; exact thr_top
theorem bits_tiny : Ideal.ofBits .f32 0x00800000#32 = thr 1 := by
  rw [show (0x00800000#32) = BitVec.ofNat 32 1 <<< 23 by decide]; rfl

theorem select_ofBool {α : Type} (p : Prop) [Decidable p] (x y : α) : Scalar.select (BitVec.ofBool (decide p)) x y = if p then x else y := by
  by_cases h : p <;> simp [Scalar.select, h]

theorem cmp_oge (x y : EReal) : Ideal.cmp .oge x y = BitVec.ofBool (decide (y ≤ x)) := rfl
theorem cmp_ogt (x y : EReal) : Ideal.cmp .ogt x y = BitVec.ofBool (decide (y < x)) := rfl
theorem cmp_olt (x y : EReal) : Ideal.cmp .olt x y = BitVec.ofBool (decide (x < y)) := rfl

theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- The reference's exponent where the biased exponent is `b`: `b - 126`. -/
theorem refExp_mid {a : EReal} (h0 : bexp a ≠ 0) (h1 : bexp a ≠ 255) : refExp a = ((((bexp a : ℤ) - 126 : ℤ) : ℝ) : EReal) := by
  have hb := bexp_le a
  have hlo := thr_bexp h0
  have hne : a ≠ ⊤ := by
    rintro rfl
    have := (lt_thr_iff (a := ⊤) (n := 255) (by omega) le_rfl).mpr (by omega)
    exact absurd this (by rw [thr_top]; exact lt_irrefl _)
  have h1' : thr 1 ≤ a := (thr_mono (by omega) hb).trans hlo
  rw [thr_mid (by omega) (by omega)] at hlo
  obtain ⟨r, rfl⟩ : ∃ r : ℝ, a = (r : EReal) := by
    refine ⟨a.toReal, (EReal.coe_toReal hne ?_).symm⟩
    rintro rfl
    exact absurd hlo (by simp)
  have hlo' : (2 : ℝ) ^ ((bexp (r : EReal) : ℤ) - 127) ≤ r := by exact_mod_cast hlo
  have hr : 0 < r := lt_of_lt_of_le (zpow_pos (by norm_num) _) hlo'
  have l2 : 0 < Real.log 2 := Real.log_pos (by norm_num)
  show Scalar.select (IntOp.andi (Ideal.cmp .oge (r : EReal) (Ideal.ofBits .f32 0x00800000#32)) (Ideal.cmp .olt (r : EReal) (Ideal.ofBits .f32 0x7F800000#32)))
    (min (Ideal.liftRound Int.floor (Ideal.div (Ideal.log (r : EReal)) (Ideal.log (Ideal.ofBits .f32 0x40000000#32))) + Ideal.ofBits .f32 0x3F800000#32) (Ideal.ofBits .f32 0x43000000#32)) (Ideal.ofBits .f32 0x00000000#32) = _
  rw [cmp_oge, cmp_olt, andi_ofBool, select_ofBool, bits_top, bits_tiny, if_pos ⟨h1', EReal.coe_lt_top r⟩, bits_two, bits_one, bits_128,
    Ideal.log_coe, Ideal.log_coe, if_neg (not_le.mpr hr), if_neg (by norm_num), Ideal.div, if_neg (by exact_mod_cast l2.ne'), ← EReal.coe_inv,
    ← EReal.coe_mul, Ideal.liftRound_coe, ← EReal.coe_add, ← EReal.coe_strictMono.monotone.map_min]
  congr 1
  have key : (bexp (r : EReal) : ℤ) - 127 ≤ ⌊Real.log r * (Real.log 2)⁻¹⌋ := by
    rw [Int.le_floor, ← div_eq_mul_inv, le_div_iff₀ l2, ← Real.log_zpow]
    exact Real.log_le_log (zpow_pos (by norm_num) _) hlo'
  rcases Nat.lt_or_ge (bexp (r : EReal)) 254 with hc | hc
  · have hup : (r : EReal) < thr (bexp (r : EReal) + 1) := (lt_thr_iff (by omega) (by omega)).mpr (by omega)
    rw [thr_mid (by omega) (by omega)] at hup
    have hup' : r < (2 : ℝ) ^ ((bexp (r : EReal) : ℤ) - 126) := by
      have : r < (2 : ℝ) ^ (((bexp (r : EReal) + 1 : ℕ) : ℤ) - 127) := by exact_mod_cast hup
      convert this using 2; push_cast; ring
    have key2 : ⌊Real.log r * (Real.log 2)⁻¹⌋ < (bexp (r : EReal) : ℤ) - 126 := by
      rw [Int.floor_lt, ← div_eq_mul_inv, div_lt_iff₀ l2, ← Real.log_zpow]
      exact Real.log_lt_log hr hup'
    rw [show ⌊Real.log r * (Real.log 2)⁻¹⌋ = (bexp (r : EReal) : ℤ) - 127 by omega, min_eq_left]
    · push_cast; ring
    · have : ((bexp (r : EReal) : ℕ) : ℝ) ≤ 254 := by exact_mod_cast (by omega : bexp (r : EReal) ≤ 254)
      push_cast; linarith
  · have hx : bexp (r : EReal) = 254 := by omega
    rw [hx] at key ⊢
    rw [min_eq_right]
    · norm_num
    · have : ((127 : ℤ) : ℝ) ≤ (⌊Real.log r * (Real.log 2)⁻¹⌋ : ℝ) := by exact_mod_cast (by omega : (127 : ℤ) ≤ ⌊Real.log r * (Real.log 2)⁻¹⌋)
      push_cast at this; linarith

/-- The reference's exponent of the infinity: 0. -/
theorem refExp_top {a : EReal} (h : a = ⊤) : refExp a = ((0 : ℝ) : EReal) := by
  subst h
  show Scalar.select (IntOp.andi (Ideal.cmp .oge (⊤ : EReal) (Ideal.ofBits .f32 0x00800000#32)) (Ideal.cmp .olt (⊤ : EReal) (Ideal.ofBits .f32 0x7F800000#32)))
    _ (Ideal.ofBits .f32 0x00000000#32) = _
  rw [cmp_oge, cmp_olt, andi_ofBool, select_ofBool, bits_top, if_neg (fun h => lt_irrefl _ h.2), bits_zero]

/-- The reference's power of two at a whole exponent, as a number with one field. -/
theorem refPow_int (n : ℤ) : refPow (((n : ℤ) : ℝ) : EReal) = thr (min 255 (n + 127).toNat) := by
  show Scalar.select (Ideal.cmp .olt (((n : ℤ) : ℝ) : EReal) (Ideal.ofBits .f32 0xC2FC0000#32)) (Ideal.ofBits .f32 0x00000000#32)
    (Scalar.select (Ideal.cmp .ogt (((n : ℤ) : ℝ) : EReal) (Ideal.ofBits .f32 0x42FE0000#32)) (Ideal.ofBits .f32 0x7F800000#32)
      (Ideal.pow (Ideal.ofBits .f32 0x40000000#32) (((n : ℤ) : ℝ) : EReal))) = _
  rw [cmp_olt, cmp_ogt, select_ofBool, select_ofBool, bits_m126, bits_127, bits_zero, bits_top, bits_two]
  have e1 : (((n : ℤ) : ℝ) : EReal) < ((-126 : ℝ) : EReal) ↔ n < -126 := by
    rw [EReal.coe_lt_coe_iff]; exact_mod_cast Iff.rfl
  have e2 : ((127 : ℝ) : EReal) < (((n : ℤ) : ℝ) : EReal) ↔ 127 < n := by
    rw [EReal.coe_lt_coe_iff]; exact_mod_cast Iff.rfl
  by_cases h1 : n < -126
  · rw [if_pos (e1.mpr h1), show min 255 (n + 127).toNat = 0 by omega, thr_zero]; simp
  · rw [if_neg (fun h => h1 (e1.mp h))]
    by_cases h2 : 127 < n
    · rw [if_pos (e2.mpr h2), show min 255 (n + 127).toNat = 255 by omega, thr_top]
    · rw [if_neg (fun h => h2 (e2.mp h)), thr_mid (by omega) (by omega), Ideal.pow_coe_coe]
      have hn : (((min 255 (n + 127).toNat : ℕ) : ℤ) - 127) = n := by omega
      rw [hn]
      congr 1
      exact Real.rpow_intCast 2 n

theorem tiny_le_iff (a : EReal) : thr 1 ≤ a ↔ bexp a ≠ 0 := by
  rw [← not_lt, lt_thr_iff le_rfl (by omega)]; omega

theorem eq_top_of {a : EReal} (h : bexp a = 255) : a = ⊤ := by
  have := thr_bexp (a := a) (by omega)
  rw [h, thr_top] at this
  exact top_le_iff.mp this

/-- The kernel's scale is the reference's. -/
theorem kerScale_eq (a : EReal) : kerScale a = refScale a := by
  have hb := bexp_le a
  rw [kerScale_thr]
  show _ = Scalar.select (Ideal.cmp .oge a (Ideal.ofBits .f32 0x00800000#32)) (refPow (refExp a - Ideal.ofBits .f32 0x40E00000#32)) (Ideal.ofBits .f32 0x3F800000#32)
  rw [cmp_oge, select_ofBool, bits_tiny, bits_seven, bits_one]
  by_cases h : bexp a = 0
  · rw [if_pos h, if_neg (by rw [tiny_le_iff]; simpa using h)]; rfl
  · rw [if_neg h, if_pos ((tiny_le_iff a).mpr h)]
    by_cases h2 : bexp a = 255
    · rw [if_pos h2, refExp_top (eq_top_of h2), ← EReal.coe_sub, show ((0 : ℝ) - 7) = ((-7 : ℤ) : ℝ) by norm_num, refPow_int]; rfl
    · rw [if_neg h2, refExp_mid h h2, ← EReal.coe_sub, show ((((bexp a : ℤ) - 126 : ℤ) : ℝ) - 7) = (((bexp a : ℤ) - 133 : ℤ) : ℝ) by push_cast; ring,
        refPow_int]
      congr 1; omega

/-- The kernel's multiplier is the reference's. -/
theorem kerMult_eq (a : EReal) : kerMult a = refMult a := by
  have hb := bexp_le a
  rw [kerMult_thr]
  show _ = Scalar.select (Ideal.cmp .oge a (Ideal.ofBits .f32 0x00800000#32)) (refPow (Ideal.ofBits .f32 0x40E00000#32 - refExp a)) (Ideal.ofBits .f32 0x3F800000#32)
  rw [cmp_oge, select_ofBool, bits_tiny, bits_seven, bits_one]
  by_cases h : bexp a = 0
  · rw [if_pos h, if_neg (by rw [tiny_le_iff]; simpa using h)]; rfl
  · rw [if_neg h, if_pos ((tiny_le_iff a).mpr h)]
    by_cases h2 : bexp a = 255
    · rw [if_pos h2, refExp_top (eq_top_of h2), ← EReal.coe_sub, show ((7 : ℝ) - 0) = ((7 : ℤ) : ℝ) by norm_num, refPow_int]; rfl
    · rw [if_neg h2, refExp_mid h h2, ← EReal.coe_sub, show (7 - (((bexp a : ℤ) - 126 : ℤ) : ℝ)) = ((133 - (bexp a : ℤ) : ℤ) : ℝ) by push_cast; ring,
        refPow_int]
      congr 1; omega

end Cert.Tile

end
-- ==== Proof.Spec.lean ====
/- What both programs compute, index by index: the quantised codes, the block scales and the dequantised values of a
   matrix given by its entries. The two sides are compared through these definitions. -/
module

public import proofs.«01_k».proof.Proof.Expo

@[expose] public section

set_option maxRecDepth 16384

noncomputable section

namespace Cert.Tile

open Idealize.ShloMosaic

/-- A three-dimensional array of `2 * 2048` rows as a matrix of 4096 rows, zero beyond its extents. -/
def mat {W : ℕ} (x : Fin 2 → Fin 2048 → Fin W → EReal) (r g : ℕ) : EReal :=
  if h : r < 4096 ∧ g < W then x ⟨r / 2048, by omega⟩ ⟨r % 2048, by omega⟩ ⟨g, h.2⟩ else 0

/-- The magnitude. -/
abbrev mag (x : EReal) : EReal := max x (-x)

/-- The greatest magnitude of block (`B`, `G`): 64 rows by 32 columns. -/
def amax (X : ℕ → ℕ → EReal) (B G : ℕ) : EReal :=
  (Finset.univ : Finset (Fin 64 × Fin 32)).sup fun p => mag (X (64 * B + p.1.val) (32 * G + p.2.val))

/-- The columns of a block one after the other. -/
theorem amax_cols (X : ℕ → ℕ → EReal) (B G : ℕ) : amax X B G
    = Finset.univ.sup fun y : Fin 32 => Finset.univ.sup fun x : Fin 64 => mag (X (64 * B + x.val) (32 * G + y.val)) := by
  unfold amax
  exact (congrArg (fun s : Finset (Fin 64 × Fin 32) => s.sup fun p => mag (X (64 * B + p.1.val) (32 * G + p.2.val)))
    Finset.univ_product_univ.symm).trans (Finset.sup_product_right _ _ _)

/-- The scale of block (`B`, `G`). -/
def scl (X : ℕ → ℕ → EReal) (B G : ℕ) : EReal := refScale (amax X B G)

/-- The hash of a key. -/
def mix1 (k : BitVec 32) : BitVec 32 :=
  let a := (k ^^^ (k >>> (16#32))) * 2146121005#32
  let b := (a ^^^ (a >>> (15#32))) * 2221713035#32
  (b ^^^ (b >>> (16#32))) >>> (8#32)

/-- The noise from a hash: a number in [0, 1). -/
def noise1 (h : BitVec 32) : EReal := ((h.toNat : ℝ) : EReal) * Ideal.ofBits .f32 0x33800000#32

/-- The noise at row `r`, column `c` of a matrix of `w` columns. -/
def noise (w : ℕ) (seed : BitVec 32) (r c : ℕ) : EReal := noise1 (mix1 (BitVec.ofNat 32 (r * w + c) ^^^ seed))

/-- Rounding down, then clipping to the codes' range. -/
def clip (y : EReal) : EReal := min ((127 : ℝ) : EReal) (max ((-127 : ℝ) : EReal) (Ideal.liftRound Int.floor y))

/-- The rounded value at row `r`, column `c`. -/
def qv (X : ℕ → ℕ → EReal) (w : ℕ) (seed : BitVec 32) (r c : ℕ) : EReal :=
  clip (X r c * refMult (amax X (r / 64) (c / 32)) + noise w seed r c)

/-- The code at row `r`, column `c`. -/
def code (X : ℕ → ℕ → EReal) (w : ℕ) (seed : BitVec 32) (r c : ℕ) : BitVec 8 := BitVec.truncate 8 (Ideal.fptosi 32 (qv X w seed r c))

/-- The dequantised value at row `r`, column `c`. -/
def dq (X : ℕ → ℕ → EReal) (w : ℕ) (seed : BitVec 32) (r c : ℕ) : EReal := qv X w seed r c * scl X (r / 64) (c / 32)

/-- The clip with its bounds as words. -/
theorem clip_bits (y : EReal) : min ((((127#32 : BitVec 32).toInt : ℝ)) : EReal) (max ((((4294967169#32 : BitVec 32).toInt : ℝ)) : EReal)
    (Ideal.liftRound Int.floor y)) = clip y := by
  rw [show (127#32 : BitVec 32).toInt = 127 by decide, show (4294967169#32 : BitVec 32).toInt = -127 by decide]
  unfold clip
  push_cast
  rfl

/-- The clipped value is a whole number of the codes' range. -/
theorem clip_int (y : EReal) : ∃ n : ℤ, -127 ≤ n ∧ n ≤ 127 ∧ clip y = ((n : ℝ) : EReal) := by
  induction y with
  | bot => exact ⟨-127, by omega, by omega, by
      rw [clip, Ideal.liftRound_bot, max_eq_left bot_le, min_eq_right (by exact_mod_cast (by norm_num : (-127 : ℝ) ≤ 127))]; norm_num⟩
  | top => exact ⟨127, by omega, by omega, by rw [clip, Ideal.liftRound_top, max_eq_right le_top, min_eq_left le_top]; norm_num⟩
  | coe r =>
    refine ⟨min 127 (max (-127) ⌊r⌋), by omega, by omega, ?_⟩
    rw [clip, Ideal.liftRound_coe, ← EReal.coe_strictMono.monotone.map_max, ← EReal.coe_strictMono.monotone.map_min]
    push_cast
    rfl

theorem roundHalfEven_int (n : ℤ) : Ideal.roundHalfEven (n : ℝ) = n := by
  simp [Ideal.roundHalfEven]

theorem roundeven_clip (y : EReal) : Ideal.liftRound Ideal.roundHalfEven (clip y) = clip y := by
  obtain ⟨n, -, -, h⟩ := clip_int y
  rw [h, Ideal.liftRound_coe, roundHalfEven_int]

theorem code_int : ∀ n : Fin 255, (BitVec.signExtend 32 (BitVec.truncate 8 (BitVec.ofInt 32 ((n.val : ℤ) - 127)))).toInt = (n.val : ℤ) - 127 := by
  decide +kernel

/-- The code, read back as a number, is the rounded value. -/
theorem sitofp_code (y : EReal) : (((BitVec.signExtend 32 (BitVec.truncate 8 (Ideal.fptosi 32 (clip y)))).toInt : ℝ) : EReal) = clip y := by
  obtain ⟨n, h1, h2, h⟩ := clip_int y
  rw [h]
  unfold Ideal.fptosi
  rw [Ideal.toIntClamped_coe]
  have e : (max (-((2 ^ (32 - 1) : ℕ) : ℤ)) (min (((2 ^ (32 - 1) : ℕ) : ℤ) - 1) (if (0 : ℝ) ≤ ((n : ℤ) : ℝ) then ⌊((n : ℤ) : ℝ)⌋ else ⌈((n : ℤ) : ℝ)⌉))) = n := by
    rw [Int.floor_intCast, Int.ceil_intCast, ite_self]; norm_num; omega
  rw [e]
  have := code_int ⟨(n + 127).toNat, by omega⟩
  rw [show (((n + 127).toNat : ℕ) : ℤ) - 127 = n by omega] at this
  rw [this]

theorem mix1_lt (k : BitVec 32) : (mix1 k).toNat < 2 ^ 24 := by
  have h (z : BitVec 32) : (z >>> (8#32)).toNat < 2 ^ 24 := by
    have := z.isLt
    rw [BitVec.ushiftRight_eq', BitVec.toNat_ushiftRight, Nat.shiftRight_eq_div_pow]
    show z.toNat / 2 ^ 8 < _
    omega
  exact h _

/-- A hash read as a signed number is the hash. -/
theorem mix1_toInt (k : BitVec 32) : ((mix1 k).toInt : ℝ) = ((mix1 k).toNat : ℝ) := by
  have := mix1_lt k
  rw [BitVec.toInt_eq_toNat_of_lt (by omega)]
  norm_cast

end Cert.Tile

end
-- ==== Proof.TileValue.lean ====
/- The tile quantiser read at an index: where the tile's values are entries of a matrix, its codes, scales and
   dequantised values are those of the matrix at the same place (`tileCodes_eq`, `tileScale_eq`, `tileDeq_eq`). -/
module

public import proofs.«01_k».proof.Proof.Tile
public import proofs.«01_k».proof.Proof.Spec

@[expose] public section

set_option maxRecDepth 16384

noncomputable section

namespace Cert.Tile

open Idealize.ShloMosaic

/-! ### The exponent, the scale and the multiplier at an element -/

theorem expStep_apply (a : FVec Ideal S8x128 .f32) (bit : BitVec 32) (e : IVec S8x128 32) (i : S8x128.Idx) :
    expStep a bit e i = expStep1 (a i) bit (e i) := by
  show Scalar.select (BitVec.ofBool (decide (a i < Ideal.ofBits .f32 (IntOp.shli .vector (IntOp.addi (e i) bit) 23#32)))) (e i) (e i + bit) = _
  rw [select_ofBool]
  rfl

theorem expo_apply (a : FVec Ideal S8x128 .f32) (i : S8x128.Idx) : expo a i = expo1 (a i) := by
  unfold expo expo1
  simp only [expStep_apply]
  rfl

theorem select_eq (x y : BitVec 32) {α : Type} (p q : α) : Scalar.select (BitVec.ofBool (x == y)) p q = if x = y then p else q := by
  unfold Scalar.select
  by_cases h : x = y
  · rw [if_pos h, if_pos (by rw [beq_iff_eq.mpr h]; rfl)]
  · rw [if_neg h, if_neg (by rw [beq_eq_false_iff_ne.mpr h]; decide)]

theorem select_ne (x y : BitVec 32) {α : Type} (p q : α) : Scalar.select (BitVec.ofBool (x != y)) p q = if x = y then q else p := by
  unfold Scalar.select
  by_cases h : x = y
  · rw [if_pos h, if_neg (by rw [bne, beq_iff_eq.mpr h]; decide)]
  · rw [if_neg h, if_pos (by rw [bne, beq_eq_false_iff_ne.mpr h]; rfl)]

theorem shift_scalar (x : BitVec 32) : Scalar.select (BitVec.ofBool (x == 0#32) ||| BitVec.ofBool (x == 255#32)) 0#32 (x - 126#32) = shift1 x := by
  unfold shift1 Scalar.select
  by_cases h1 : x = 0#32
  · rw [if_pos (by rw [beq_iff_eq.mpr h1]; cases (x == 255#32) <;> rfl), if_pos (.inl h1)]
  · by_cases h2 : x = 255#32
    · rw [if_pos (by rw [beq_iff_eq.mpr h2]; cases (x == 0#32) <;> rfl), if_pos (.inr h2)]
    · rw [if_neg (by rw [beq_eq_false_iff_ne.mpr h1, beq_eq_false_iff_ne.mpr h2]; decide), if_neg (by simp [h1, h2])]

theorem shift_apply (e : IVec S8x128 32) (i : S8x128.Idx) : shift e i = shift1 (e i) := shift_scalar (e i)

theorem scale_apply (e : IVec S8x128 32) (i : S8x128.Idx) : scale e i = scale1 (e i) := by
  show Scalar.select (BitVec.ofBool (e i != 0#32)) (Ideal.ofBits .f32 (IntOp.shli .vector (IntOp.minsi 255#32 (IntOp.maxsi 0#32 (shift e i - 7#32 + 127#32))) 23#32))
    (Ideal.ofBits .f32 0x3F800000#32) = _
  rw [shift_apply, select_ne, bits_one]
  rfl

theorem mult_apply (e : IVec S8x128 32) (i : S8x128.Idx) : mult e i = mult1 (e i) := by
  show Scalar.select (BitVec.ofBool (e i != 0#32)) (Ideal.ofBits .f32 (IntOp.shli .vector (IntOp.minsi 255#32 (IntOp.maxsi 0#32 (7#32 - shift e i + 127#32))) 23#32))
    (Ideal.ofBits .f32 0x3F800000#32) = _
  rw [shift_apply, select_ne, bits_one]
  rfl

/-! ### The greatest magnitude -/

theorem bits_bot : Ideal.ofBits .f32 0xFF800000#32 = ⊥ := by
  simp only [Ideal.ofBits, Ideal.ieee]
  rw [if_pos (by decide), if_pos (by decide), if_pos (by decide)]

theorem fold_max {ι : Type} (s : Finset ι) (f : ι → EReal) : Finset.fold max (Ideal.ofBits .f32 0xFF800000#32) f s = s.sup f := by
  rw [bits_bot]; rfl

theorem rowMax_apply (v : FVec Ideal S512x128 .bf16) (b : Fin 8) (l : Fin 128) :
    rowMax v (ValueIdx.ix2 b l) = (Finset.univ : Finset (Fin 64)).sup fun x => mag (v (ValueIdx.ix2 ⟨b.val * 64 + x.val, by omega⟩ l)) := by
  pointwise [rowMax]
  exact fold_max _ _

/-- The lane taken in by lane `l`. -/
def other (s r : BitVec 32) (l : Fin 128) : Fin 128 :=
  Scalar.select (IntOp.cmpi .eq (IntOp.andi (BitVec.ofNat 32 l.val) s) 0#32)
    ⟨(l.val + 128 - r.toNat % 128) % 128, Nat.mod_lt _ (by decide)⟩ ⟨(l.val + 128 - s.toNat % 128) % 128, Nat.mod_lt _ (by decide)⟩

theorem fold_apply (s r : BitVec 32) (a : FVec Ideal S8x128 .f32) (b : Fin 8) (l : Fin 128) :
    fold s r a (ValueIdx.ix2 b l) = max (a (ValueIdx.ix2 b l)) (a (ValueIdx.ix2 b (other s r l))) := by
  pointwise [fold, lane, all]
  unfold other Scalar.select
  split <;> rfl

/-- The lanes of `l`'s group of `m`. -/
def grp (m : ℕ) (l : Fin 128) : Finset (Fin 128) := Finset.univ.filter fun k => k.val / m = l.val / m

theorem fold_grp {m : ℕ} {s r : BitVec 32} (h : ∀ l : Fin 128, grp (2 * m) l = grp m l ∪ grp m (other s r l))
    {a : FVec Ideal S8x128 .f32} {f : Fin 8 → Fin 128 → EReal} (ha : ∀ b l, a (ValueIdx.ix2 b l) = (grp m l).sup (f b)) (b : Fin 8) (l : Fin 128) :
    fold s r a (ValueIdx.ix2 b l) = (grp (2 * m) l).sup (f b) := by
  rw [fold_apply, ha, ha, h, Finset.sup_union]

theorem grp_one (l : Fin 128) : grp 1 l = {l} := by
  ext k
  simp only [grp, Nat.div_one, Finset.mem_filter, Finset.mem_univ, true_and, Finset.mem_singleton]
  exact Fin.ext_iff.symm

theorem grp_double {m : ℕ} {s r : BitVec 32}
    (h : ∀ l : Fin 128, (other s r l).val / m = if l.val / m % 2 = 0 then l.val / m + 1 else l.val / m - 1) (l : Fin 128) :
    grp (2 * m) l = grp m l ∪ grp m (other s r l) := by
  ext k
  simp only [grp, Finset.mem_union, Finset.mem_filter, Finset.mem_univ, true_and, h, Nat.mul_comm 2 m, ← Nat.div_div_eq_div_mul]
  generalize k.val / m = a
  generalize l.val / m = b
  split <;> omega

theorem other_1 : ∀ l : Fin 128, (other 1#32 127#32 l).val / 1 = if l.val / 1 % 2 = 0 then l.val / 1 + 1 else l.val / 1 - 1 := by decide +kernel
theorem other_2 : ∀ l : Fin 128, (other 2#32 126#32 l).val / 2 = if l.val / 2 % 2 = 0 then l.val / 2 + 1 else l.val / 2 - 1 := by decide +kernel
theorem other_4 : ∀ l : Fin 128, (other 4#32 124#32 l).val / 4 = if l.val / 4 % 2 = 0 then l.val / 4 + 1 else l.val / 4 - 1 := by decide +kernel
theorem other_8 : ∀ l : Fin 128, (other 8#32 120#32 l).val / 8 = if l.val / 8 % 2 = 0 then l.val / 8 + 1 else l.val / 8 - 1 := by decide +kernel
theorem other_16 : ∀ l : Fin 128, (other 16#32 112#32 l).val / 16 = if l.val / 16 % 2 = 0 then l.val / 16 + 1 else l.val / 16 - 1 := by decide +kernel

theorem groupMax_apply (a : FVec Ideal S8x128 .f32) (b : Fin 8) (l : Fin 128) :
    groupMax a (ValueIdx.ix2 b l) = (grp 32 l).sup fun k => a (ValueIdx.ix2 b k) := by
  have h0 : ∀ b l, a (ValueIdx.ix2 b l) = (grp 1 l).sup fun k => a (ValueIdx.ix2 b k) := fun b l => by rw [grp_one, Finset.sup_singleton]
  exact fold_grp (grp_double other_16) (fold_grp (grp_double other_8) (fold_grp (grp_double other_4)
    (fold_grp (grp_double other_2) (fold_grp (grp_double other_1) h0)))) b l

theorem grp_image (l : Fin 128) : grp 32 l = Finset.univ.image fun y : Fin 32 => (⟨32 * (l.val / 32) + y.val, by omega⟩ : Fin 128) := by
  ext k
  simp only [grp, Finset.mem_filter, Finset.mem_univ, true_and, Finset.mem_image]
  constructor
  · intro h
    exact ⟨⟨k.val % 32, Nat.mod_lt _ (by decide)⟩, Fin.ext (by show 32 * (l.val / 32) + k.val % 32 = k.val; omega)⟩
  · rintro ⟨y, rfl⟩
    show (32 * (l.val / 32) + y.val) / 32 = _
    omega

/-- The tile's values are the entries of `X` from row `512 t` and column `128 j`. -/
def IsTile (X : ℕ → ℕ → EReal) (t j : ℕ) (v : FVec Ideal S512x128 .bf16) : Prop :=
  ∀ (r : Fin 512) (l : Fin 128), v (ValueIdx.ix2 r l) = X (512 * t + r.val) (128 * j + l.val)

section
variable {X : ℕ → ℕ → EReal} {t j : ℕ} {v : FVec Ideal S512x128 .bf16}

theorem blockMax_eq (hv : IsTile X t j v) (b : Fin 8) (l : Fin 128) :
    groupMax (rowMax v) (ValueIdx.ix2 b l) = amax X (8 * t + b.val) (4 * j + l.val / 32) := by
  rw [groupMax_apply, grp_image, Finset.sup_image, amax_cols]
  refine Finset.sup_congr rfl fun y _ => ?_
  rw [Function.comp_apply]
  refine (rowMax_apply v b ⟨32 * (l.val / 32) + y.val, by omega⟩).trans ?_
  refine Finset.sup_congr rfl fun x _ => ?_
  rw [hv]
  show mag (X (512 * t + (b.val * 64 + x.val)) (128 * j + (32 * (l.val / 32) + y.val))) = mag (X (64 * (8 * t + b.val) + x.val) (32 * (4 * j + l.val / 32) + y.val))
  rw [show 512 * t + (b.val * 64 + x.val) = 64 * (8 * t + b.val) + x.val by omega,
    show 128 * j + (32 * (l.val / 32) + y.val) = 32 * (4 * j + l.val / 32) + y.val by omega]

/-- The tile's scales are the matrix's. -/
theorem tileScale_eq (hv : IsTile X t j v) (b : Fin 8) (l : Fin 128) :
    tileScale v (ValueIdx.ix2 b l) = scl X (8 * t + b.val) (4 * j + l.val / 32) := by
  show scale (expo (groupMax (rowMax v))) (ValueIdx.ix2 b l) = _
  rw [scale_apply, expo_apply, blockMax_eq hv]
  exact kerScale_eq _

theorem tileMult_eq (hv : IsTile X t j v) (b : Fin 8) (l : Fin 128) :
    mult (blockExpo v) (ValueIdx.ix2 b l) = refMult (amax X (8 * t + b.val) (4 * j + l.val / 32)) := by
  show mult (expo (groupMax (rowMax v))) (ValueIdx.ix2 b l) = _
  rw [mult_apply, expo_apply, blockMax_eq hv]
  exact kerMult_eq _

/-! ### The rounded values -/

theorem scaled_apply (v : FVec Ideal S512x128 .bf16) (m : FVec Ideal S8x128 .f32) (r : Fin 512) (l : Fin 128) :
    scaled v m (ValueIdx.ix2 r l) = v (ValueIdx.ix2 r l) * m (ValueIdx.ix2 ⟨r.val / 64, by omega⟩ l) := by
  pointwise [scaled]
  rfl

theorem key_apply (width tok col seed : BitVec 32) (r : Fin 512) (l : Fin 128) :
    key width tok col seed (ValueIdx.ix2 r l) = (BitVec.ofNat 32 r.val * width + BitVec.ofNat 32 l.val + (tok * width + col)) ^^^ seed := by
  pointwise [key, full]
  rfl

theorem mix_apply (k : IVec S512x128 32) (i : S512x128.Idx) : mix k i = mix1 (k i) := rfl

theorem quant_apply (y : FVec Ideal S512x128 .f32) (k : IVec S512x128 32) (r : Fin 512) (l : Fin 128) :
    quant y (mix k) (ValueIdx.ix2 r l) = clip (y (ValueIdx.ix2 r l) + noise1 (mix1 (k (ValueIdx.ix2 r l)))) := by
  show min (Ideal.ofBits .f32 0x42FE0000#32) (max (Ideal.ofBits .f32 0xC2FE0000#32) (Ideal.liftRound Int.floor
    (y (ValueIdx.ix2 r l) + (((mix1 (k (ValueIdx.ix2 r l))).toInt : ℝ) : EReal) * Ideal.ofBits .f32 0x33800000#32))) = _
  rw [mix1_toInt, bits_127, bits_m127]
  rfl

/-- The tile's rounded values are the matrix's. -/
theorem tileQuant_eq (hv : IsTile X t j v) (w : ℕ) (seed : BitVec 32) (r : Fin 512) (l : Fin 128) :
    tileQuant v (BitVec.ofNat 32 w) (BitVec.ofNat 32 (512 * t)) (BitVec.ofNat 32 (128 * j)) seed (ValueIdx.ix2 r l)
      = qv X w seed (512 * t + r.val) (128 * j + l.val) := by
  unfold tileQuant qv noise
  rw [quant_apply, scaled_apply, tileMult_eq hv, hv, key_apply]
  have e1 : 8 * t + r.val / 64 = (512 * t + r.val) / 64 := by omega
  have e2 : 4 * j + l.val / 32 = (128 * j + l.val) / 32 := by omega
  have e3 : BitVec.ofNat 32 r.val * BitVec.ofNat 32 w + BitVec.ofNat 32 l.val + (BitVec.ofNat 32 (512 * t) * BitVec.ofNat 32 w + BitVec.ofNat 32 (128 * j))
      = BitVec.ofNat 32 ((512 * t + r.val) * w + (128 * j + l.val)) := by
    simp only [← BitVec.ofNat_mul, ← BitVec.ofNat_add]
    congr 1; ring
  rw [e3]
  show clip (_ * refMult (amax X (8 * t + r.val / 64) (4 * j + l.val / 32)) + _) = _
  rw [e1, e2]

/-- The tile's codes are the matrix's. -/
theorem tileCodes_eq (hv : IsTile X t j v) (w : ℕ) (seed : BitVec 32) (r : Fin 512) (l : Fin 128) :
    tileCodes v (BitVec.ofNat 32 w) (BitVec.ofNat 32 (512 * t)) (BitVec.ofNat 32 (128 * j)) seed (ValueIdx.ix2 r l)
      = code X w seed (512 * t + r.val) (128 * j + l.val) := by
  show BitVec.truncate 8 (Ideal.fptosi 32 (Ideal.liftRound Ideal.roundHalfEven (tileQuant v _ _ _ seed (ValueIdx.ix2 r l)))) = _
  rw [tileQuant_eq hv]
  unfold code
  congr 2
  exact roundeven_clip _

/-- The dequantised tile is the matrix's. -/
theorem tileDeq_eq (hv : IsTile X t j v) (w : ℕ) (seed : BitVec 32) (r : Fin 512) (l : Fin 128) :
    tileDeq v (BitVec.ofNat 32 w) (BitVec.ofNat 32 (512 * t)) (BitVec.ofNat 32 (128 * j)) seed (ValueIdx.ix2 r l)
      = dq X w seed (512 * t + r.val) (128 * j + l.val) := by
  have h : tileDeq v (BitVec.ofNat 32 w) (BitVec.ofNat 32 (512 * t)) (BitVec.ofNat 32 (128 * j)) seed (ValueIdx.ix2 r l)
      = tileQuant v (BitVec.ofNat 32 w) (BitVec.ofNat 32 (512 * t)) (BitVec.ofNat 32 (128 * j)) seed (ValueIdx.ix2 r l)
        * tileScale v (ValueIdx.ix2 ⟨r.val / 64, by omega⟩ l) := by
    pointwise [tileDeq]
    rfl
  rw [h, tileQuant_eq hv, tileScale_eq hv]
  unfold dq
  have e1 : 8 * t + r.val / 64 = (512 * t + r.val) / 64 := by omega
  have e2 : 4 * j + l.val / 32 = (128 * j + l.val) / 32 := by omega
  show _ * scl X (8 * t + r.val / 64) (4 * j + l.val / 32) = _
  rw [e1, e2]

/-! ### The compacted scales -/

theorem pick_val : ∀ l : Fin 128,
    (Scalar.select (IntOp.cmpi .slt (IntOp.muli (IntOp.andi (BitVec.ofNat 32 l.val) 3#32) 32#32) 0#32)
      (IntOp.addi (IntOp.muli (IntOp.andi (BitVec.ofNat 32 l.val) 3#32) 32#32) 128#32)
      (IntOp.muli (IntOp.andi (BitVec.ofNat 32 l.val) 3#32) 32#32)).toNat = 32 * (l.val % 4) := by decide +kernel

theorem pick_apply (b : Fin 8) (l : Fin 128) : (pick (ValueIdx.ix2 b l)).toNat = 32 * (l.val % 4) := by
  rw [← pick_val l]
  congr 1
  pointwise [pick, lane, all]

/-- The compacted scales of a tile. -/
theorem compact_eq (hv : IsTile X t j v) (b : Fin 8) (l : Fin 128) :
    compact (tileScale v) (ValueIdx.ix2 b l) = scl X (8 * t + b.val) (4 * j + l.val % 4) := by
  have h : compact (tileScale v) (ValueIdx.ix2 b l) = tileScale v (ValueIdx.ix2 b ⟨32 * (l.val % 4), by omega⟩) := by
    show tileScale v _ = _
    congr 1
    funext d
    match d with
    | ⟨0, _⟩ => rfl
    | ⟨1, _⟩ =>
      apply Fin.ext
      show (pick (ValueIdx.ix2 b l)).toNat % 128 = 32 * (l.val % 4)
      rw [pick_apply]; omega
  rw [h, tileScale_eq hv]
  show scl X (8 * t + b.val) (4 * j + 32 * (l.val % 4) / 32) = _
  rw [show 32 * (l.val % 4) / 32 = l.val % 4 by omega]

theorem mine_val : ∀ (n : Fin 32) (l : Fin 128),
    IntOp.cmpi .eq (IntOp.shrsi .vector (BitVec.ofNat 32 l.val) 2#32) (BitVec.ofNat 32 n.val) = BitVec.ofBool (decide (l.val / 4 = n.val)) := by
  decide +kernel

theorem mine_apply (n : ℕ) (hn : n < 32) (b : Fin 8) (l : Fin 128) : mine (BitVec.ofNat 32 n) (ValueIdx.ix2 b l) = BitVec.ofBool (decide (l.val / 4 = n)) := by
  rw [← mine_val ⟨n, hn⟩ l]
  pointwise [mine, lane, all]

end

end Cert.Tile

end
-- ==== Proof.DyRef.lean ====
/- The reference of dy read at an index: the same functions of `Spec`. -/
module

public import proofs.«01_k».proof.Proof.TileValue
public import proofs.«01_k».proof.Proof.Gen.ReferenceDyIdeal.Read

@[expose] public section

set_option maxRecDepth 16384

noncomputable section

namespace Cert.ReferenceDyIdeal.Read

open Idealize.ShloMosaic Idealize.ShloMosaic.TcCoe
open Cert.ReferenceDyIdeal

variable (x0 : Vec Ideal S2x2048x3456 .bf16) (x1 : Vec Ideal S2 .i32)

/-- The argument as a matrix. -/
abbrev xm : ℕ → ℕ → EReal := Tile.mat fun (a : Fin 2) (b : Fin 2048) (g : Fin 3456) => (x0 (ValueIdx.ix3 a b g) : EReal)

/-- The row of the matrix at block row `d`, `B` and row `r` within the block. -/
abbrev row (d : Fin 2) (B : Fin 32) (r : Fin 64) : ℕ := 64 * (32 * d.val + B.val) + r.val

theorem x_apply (d : Fin 2) (B : Fin 32) (r : Fin 64) (c : Fin 3456) :
    (val_main_v3 (F := Ideal) x0 (ValueIdx.ix4 d B r c) : EReal) = xm x0 (row d B r) c.val := by
  rw [val_main_v3_apply, val_main_v2_apply]
  unfold xm Tile.mat
  rw [dif_pos ⟨by show 64 * (32 * d.val + B.val) + r.val < 4096; omega, c.isLt⟩]
  show x0 _ = x0 _
  congr 1
  funext a
  apply Fin.ext
  match a with
  | ⟨0, _⟩ => show (((d.val * 32 + B.val) * 64 + r.val) * 3456 + c.val) / 7077888 = (64 * (32 * d.val + B.val) + r.val) / 2048; omega
  | ⟨1, _⟩ => show (((d.val * 32 + B.val) * 64 + r.val) * 3456 + c.val) / 3456 % 2048 = (64 * (32 * d.val + B.val) + r.val) % 2048; omega
  | ⟨2, _⟩ => show (((d.val * 32 + B.val) * 64 + r.val) * 3456 + c.val) % 3456 = c.val; omega

theorem colMax_apply (d : Fin 2) (B : Fin 32) (c : Fin 3456) : (val_main_v5 (F := Ideal) x0 (ValueIdx.ix3 d B c) : EReal)
    = (Finset.univ : Finset (Fin 64)).sup fun r => Tile.mag (xm x0 (row d B r) c.val) := by
  unfold val_main_v5
  pointwise
  refine (Tile.fold_max _ _).trans (Finset.sup_congr rfl fun r _ => ?_)
  show Tile.mag (val_main_v3 (F := Ideal) x0 (ValueIdx.ix4 d B r c)) = _
  rw [x_apply]

theorem amax_apply (d : Fin 2) (B : Fin 32) (G : Fin 108) : (val_main_v7 (F := Ideal) x0 (ValueIdx.ix3 d B G) : EReal)
    = Tile.amax (xm x0) (32 * d.val + B.val) G.val := by
  unfold val_main_v7
  pointwise
  rw [Tile.amax_cols]
  refine (Tile.fold_max _ _).trans (Finset.sup_congr rfl fun c _ => ?_)
  show (val_main_v6 (F := Ideal) x0 (ValueIdx.ix4 d B G c) : EReal) = _
  rw [val_main_v6_apply]
  have hc : 32 * G.val + c.val < 3456 := by omega
  refine (congrArg (val_main_v5 (F := Ideal) x0) ?_).trans (colMax_apply x0 d B ⟨32 * G.val + c.val, hc⟩)
  funext a
  apply Fin.ext
  match a with
  | ⟨0, _⟩ => show (((d.val * 32 + B.val) * 108 + G.val) * 32 + c.val) / 110592 = d.val; omega
  | ⟨1, _⟩ => show (((d.val * 32 + B.val) * 108 + G.val) * 32 + c.val) / 3456 % 32 = B.val; omega
  | ⟨2, _⟩ => show (((d.val * 32 + B.val) * 108 + G.val) * 32 + c.val) % 3456 = 32 * G.val + c.val; omega

theorem scale_apply (i : S2x32x108.Idx) : val_main_v35 (F := Ideal) x0 i = Tile.refScale (val_main_v7 (F := Ideal) x0 i) := by
  simp only [val_main_v35_apply, val_main_v34_apply, val_main_v33_apply, val_main_v32_apply, val_main_v31_apply, val_main_v30_apply, val_main_v29_apply,
    val_main_v28_apply, val_main_v27_apply, val_main_v26_apply, val_main_v25_apply, val_main_v24_apply, val_main_v23_apply, val_main_v22_apply,
    val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8_apply,
    val_main_cst_1_apply, val_main_cst_2_apply, val_main_cst_3_apply, val_main_cst_4_apply, val_main_cst_5_apply, val_main_cst_6_apply,
    val_main_cst_7_apply, val_main_cst_8_apply, val_main_cst_9_apply, val_main_cst_10_apply, val_main_cst_11_apply, val_main_cst_12_apply,
    val_main_cst_13_apply, val_main_cst_14_apply, val_main_call0_v0_apply, val_main_call0_v1_apply, val_main_call1_v0_apply, val_main_call1_v1_apply,
    val_main_call2_v0_apply, val_main_call2_v1_apply, val_main_call3_v0_apply]
  rfl

theorem mult_apply (i : S2x32x108.Idx) : val_main_v48 (F := Ideal) x0 i = Tile.refMult (val_main_v7 (F := Ideal) x0 i) := by
  simp only [val_main_v48_apply, val_main_v47_apply, val_main_v46_apply, val_main_v45_apply, val_main_v44_apply, val_main_v43_apply, val_main_v42_apply,
    val_main_v41_apply, val_main_v40_apply, val_main_v39_apply, val_main_v38_apply, val_main_v37_apply, val_main_v36_apply, val_main_v22_apply,
    val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8_apply,
    val_main_cst_1_apply, val_main_cst_2_apply, val_main_cst_3_apply, val_main_cst_4_apply, val_main_cst_5_apply, val_main_cst_6_apply,
    val_main_cst_15_apply, val_main_cst_16_apply, val_main_cst_17_apply, val_main_cst_18_apply, val_main_cst_19_apply, val_main_cst_20_apply,
    val_main_cst_21_apply, val_main_cst_22_apply, val_main_call0_v0_apply, val_main_call0_v1_apply, val_main_call4_v0_apply, val_main_call4_v1_apply,
    val_main_call5_v0_apply, val_main_call5_v1_apply, val_main_call6_v0_apply]
  rfl

theorem scl_apply (d : Fin 2) (B : Fin 32) (G : Fin 108) : val_main_v35 (F := Ideal) x0 (ValueIdx.ix3 d B G) = Tile.scl (xm x0) (32 * d.val + B.val) G.val := by
  rw [scale_apply, amax_apply]; rfl

/-- The seed. -/
theorem seed_apply (i : S_.Idx) : val_main_v1 (F := Ideal) x1 i = x1 (ValueIdx.ix1 (1 : Fin 2)) := by
  unfold val_main_v1
  refine (shapeCast_apply _ _ _ (ValueIdx.ix1 (0 : Fin 1)) ?_).trans ?_
  · exact (Nat.lt_one_iff.mp (lt_of_lt_of_eq (Fin.isLt _) (by decide))).trans
      (Nat.lt_one_iff.mp (lt_of_lt_of_eq (Fin.isLt _) (by decide))).symm
  · rw [val_main_v0_apply]
    congr 1
    funext a
    match a with
    | ⟨0, _⟩ => rfl

theorem hash_apply (d : Fin 2) (B : Fin 32) (r : Fin 64) (c : Fin 3456) : val_main_v85 (F := Ideal) x1 (ValueIdx.ix4 d B r c)
    = Tile.mix1 (BitVec.ofNat 32 (row d B r * 3456 + c.val) ^^^ x1 (ValueIdx.ix1 (1 : Fin 2))) := by
  have hk : val_main_v70 (F := Ideal) x1 (ValueIdx.ix4 d B r c) = BitVec.ofNat 32 (row d B r * 3456 + c.val) ^^^ x1 (ValueIdx.ix1 (1 : Fin 2)) := by
    simp only [val_main_v70_apply, val_main_v69_apply, val_main_v68_apply, val_main_v67_apply, val_main_v66_apply, val_main_v65_apply, val_main_v64_apply,
      val_main_v63_apply, val_main_v62_apply, val_main_v61_apply, val_main_v60_apply, val_main_v59_apply, val_main_v58_apply, val_main_v57_apply,
      val_main_v56_apply, val_main_v55_apply, val_main_v54_apply, val_main_c_apply, val_main_c_23_apply, val_main_c_24_apply, seed_apply]
    show (((BitVec.ofNat 32 d.val * 2048#32 + BitVec.ofNat 32 B.val * 64#32 + BitVec.ofNat 32 r.val) * 3456#32 + BitVec.ofNat 32 c.val) ^^^ _) = _
    congr 1
    rw [← BitVec.ofNat_mul, ← BitVec.ofNat_mul, ← BitVec.ofNat_add, ← BitVec.ofNat_add, ← BitVec.ofNat_mul, ← BitVec.ofNat_add]
    congr 1
    show (d.val * 2048 + B.val * 64 + r.val) * 3456 + c.val = (64 * (32 * d.val + B.val) + r.val) * 3456 + c.val
    omega
  simp only [val_main_v85_apply, val_main_v84_apply, val_main_v83_apply, val_main_v82_apply, val_main_v81_apply, val_main_v80_apply, val_main_v79_apply,
    val_main_v78_apply, val_main_v77_apply, val_main_v76_apply, val_main_v75_apply, val_main_v74_apply, val_main_v73_apply, val_main_v72_apply,
    val_main_v71_apply, val_main_c_25_apply, val_main_c_26_apply, val_main_c_27_apply, val_main_c_28_apply, val_main_c_29_apply, val_main_c_30_apply, hk]
  rfl

theorem bmult_apply (d : Fin 2) (B : Fin 32) (r : Fin 64) (c : Fin 3456) :
    val_main_v52 (F := Ideal) x0 (ValueIdx.ix4 d B r c) = Tile.refMult (Tile.amax (xm x0) (32 * d.val + B.val) (c.val / 32)) := by
  rw [val_main_v52_apply, val_main_v51_apply, val_main_v50_apply, val_main_v49_apply, mult_apply]
  refine congrArg Tile.refMult ((congrArg (val_main_v7 (F := Ideal) x0) ?_).trans (amax_apply x0 d B ⟨c.val / 32, by omega⟩))
  funext a
  apply Fin.ext
  match a with
  | ⟨0, _⟩ => show ((d.val * 32 + B.val) * 3456 + c.val) / 110592 = d.val; omega
  | ⟨1, _⟩ => show ((d.val * 32 + B.val) * 3456 + c.val) / 3456 % 32 = B.val; omega
  | ⟨2, _⟩ => show ((d.val * 32 + B.val) * 3456 + c.val) / 32 % 108 = c.val / 32; omega

theorem bscale_apply (d : Fin 2) (B : Fin 32) (r : Fin 64) (c : Fin 3456) :
    val_main_v103 (F := Ideal) x0 (ValueIdx.ix4 d B r c) = Tile.scl (xm x0) (32 * d.val + B.val) (c.val / 32) := by
  rw [val_main_v103_apply, val_main_v102_apply, val_main_v97_apply, val_main_v96_apply, val_main_v95_apply]
  refine (congrArg (val_main_v35 (F := Ideal) x0) ?_).trans (scl_apply x0 d B ⟨c.val / 32, by omega⟩)
  funext a
  apply Fin.ext
  match a with
  | ⟨0, _⟩ => show ((d.val * 32 + B.val) * 3456 + c.val) / 110592 = d.val; omega
  | ⟨1, _⟩ => show ((d.val * 32 + B.val) * 3456 + c.val) / 3456 % 32 = B.val; omega
  | ⟨2, _⟩ => show ((d.val * 32 + B.val) * 3456 + c.val) / 32 % 108 = c.val / 32; omega

/-- The rounded value. -/
theorem qv_apply (d : Fin 2) (B : Fin 32) (r : Fin 64) (c : Fin 3456) : (val_main_v91 (F := Ideal) x0 x1 (ValueIdx.ix4 d B r c) : EReal)
    = Tile.qv (xm x0) 3456 (x1 (ValueIdx.ix1 (1 : Fin 2))) (row d B r) c.val := by
  simp only [val_main_v91_apply, val_main_call7_v4_apply, val_main_call7_v3_apply, val_main_call7_v2_apply, val_main_call7_v1_apply, val_main_call7_v0_apply,
    val_main_c_33_apply, val_main_c_32_apply, val_main_v90_apply, val_main_v89_apply, val_main_v88_apply, val_main_v87_apply, val_main_v86_apply,
    val_main_cst_31_apply, val_main_v53_apply, x_apply, bmult_apply, hash_apply]
  unfold Tile.qv Tile.noise
  rw [show row d B r / 64 = 32 * d.val + B.val by show (64 * (32 * d.val + B.val) + r.val) / 64 = _; omega]
  exact Tile.clip_bits _

/-- The indices of row `R`: the block row's two parts and the row within the block. -/
theorem row_split (R : ℕ) (h : R < 4096) : row ⟨R / 2048, by omega⟩ ⟨R / 64 % 32, by omega⟩ ⟨R % 64, by omega⟩ = R := by
  show 64 * (32 * (R / 2048) + R / 64 % 32) + R % 64 = R
  omega

theorem codes_apply (R : Fin 4096) (c : Fin 3456) : val_main_v94 (F := Ideal) x0 x1 (ValueIdx.ix2 R c)
    = Tile.code (xm x0) 3456 (x1 (ValueIdx.ix1 (1 : Fin 2))) R.val c.val := by
  rw [val_main_v94_apply, val_main_v93_apply, val_main_v92_apply]
  unfold Tile.code
  refine congrArg (fun q => BitVec.truncate 8 (Ideal.fptosi 32 q)) ?_
  refine (congrArg (val_main_v91 (F := Ideal) x0 x1) ?_).trans ((qv_apply x0 x1 ⟨R.val / 2048, by omega⟩ ⟨R.val / 64 % 32, by omega⟩ ⟨R.val % 64, by omega⟩ c).trans
    (by rw [row_split R.val R.isLt]))
  funext a
  apply Fin.ext
  match a with
  | ⟨0, _⟩ => show (R.val * 3456 + c.val) / 7077888 = R.val / 2048; omega
  | ⟨1, _⟩ => show (R.val * 3456 + c.val) / 221184 % 32 = R.val / 64 % 32; omega
  | ⟨2, _⟩ => show (R.val * 3456 + c.val) / 3456 % 64 = R.val % 64; omega
  | ⟨3, _⟩ => show (R.val * 3456 + c.val) % 3456 = c.val; omega

theorem scales_apply (B : Fin 64) (G : Fin 108) : val_main_v106 (F := Ideal) x0 (ValueIdx.ix2 B G) = Tile.scl (xm x0) B.val G.val := by
  rw [val_main_v106_apply]
  refine (congrArg (val_main_v35 (F := Ideal) x0) ?_).trans ((scl_apply x0 ⟨B.val / 32, by omega⟩ ⟨B.val % 32, by omega⟩ G).trans
    (by rw [show 32 * (B.val / 32) + B.val % 32 = B.val by omega]))
  funext a
  apply Fin.ext
  match a with
  | ⟨0, _⟩ => show (B.val * 108 + G.val) / 3456 = B.val / 32; omega
  | ⟨1, _⟩ => show (B.val * 108 + G.val) / 108 % 32 = B.val % 32; omega
  | ⟨2, _⟩ => show (B.val * 108 + G.val) % 108 = G.val; omega

/-- The dequantised value: the code's value times the scale. -/
theorem deq_apply (R : Fin 4096) (c : Fin 3456) : (val_main_v105 (F := Ideal) x0 x1 (ValueIdx.ix2 R c) : EReal)
    = Tile.dq (xm x0) 3456 (x1 (ValueIdx.ix1 (1 : Fin 2))) R.val c.val := by
  have hi : idx_main_v105 (ValueIdx.ix2 R c)
      = ValueIdx.ix4 (⟨R.val / 2048, by omega⟩ : Fin 2) (⟨R.val / 64 % 32, by omega⟩ : Fin 32) (⟨R.val % 64, by omega⟩ : Fin 64) c := by
    funext a
    apply Fin.ext
    match a with
    | ⟨0, _⟩ => show (R.val * 3456 + c.val) / 7077888 = R.val / 2048; omega
    | ⟨1, _⟩ => show (R.val * 3456 + c.val) / 221184 % 32 = R.val / 64 % 32; omega
    | ⟨2, _⟩ => show (R.val * 3456 + c.val) / 3456 % 64 = R.val % 64; omega
    | ⟨3, _⟩ => show (R.val * 3456 + c.val) % 3456 = c.val; omega
  have hj : idx_main_v101 (ValueIdx.ix4 (⟨R.val / 2048, by omega⟩ : Fin 2) (⟨R.val / 64 % 32, by omega⟩ : Fin 32) (⟨R.val % 64, by omega⟩ : Fin 64) c)
      = ValueIdx.ix2 R c := by
    funext a
    apply Fin.ext
    match a with
    | ⟨0, _⟩ => show (((R.val / 2048 * 32 + R.val / 64 % 32) * 64 + R.val % 64) * 3456 + c.val) / 3456 = R.val; omega
    | ⟨1, _⟩ => show (((R.val / 2048 * 32 + R.val / 64 % 32) * 64 + R.val % 64) * 3456 + c.val) % 3456 = c.val; omega
  rw [val_main_v105_apply, hi, val_main_v104_apply, bscale_apply, val_main_v101_apply, hj, val_main_v100_apply, val_main_v99_apply, val_main_v98_apply, codes_apply,
    show 32 * (R.val / 2048) + R.val / 64 % 32 = R.val / 64 by omega]
  unfold Tile.dq
  exact congrArg (fun q : EReal => q * _) (Tile.sitofp_code _)

theorem deqT_apply (c : Fin 3456) (R : Fin 4096) : (val_main_v107 (F := Ideal) x0 x1 (ValueIdx.ix2 c R) : EReal)
    = Tile.dq (xm x0) 3456 (x1 (ValueIdx.ix1 (1 : Fin 2))) R.val c.val := by
  rw [val_main_v107_apply]
  refine (congrArg (val_main_v105 (F := Ideal) x0 x1) ?_).trans (deq_apply x0 x1 R c)
  funext a
  match a with
  | ⟨0, _⟩ => rfl
  | ⟨1, _⟩ => rfl

end Cert.ReferenceDyIdeal.Read

end
-- ==== Proof.DyTrip.lean ====
/- One trip of the loop of the call on dy: its pieces are the tile quantiser's results on the 512 rows it loads. -/
module

public import proofs.«01_k».proof.Proof.Gen.QuantDyIdeal.Loops
public import proofs.«01_k».proof.Proof.TileValue

@[expose] public section

set_option maxRecDepth 16384

noncomputable section

namespace Cert.QuantDyIdeal.Gen

open Idealize.ShloMosaic Idealize.ShloMosaic.TcCoe Idealize.SL.Sem
open Cert.QuantDyIdeal

/-- The rows a trip loads. -/
abbrev rows (arg2 : Memref sig .tc .vmem S4096x128 .bf16) (X : BufTy.Contents (Elt Ideal) arg2.view.ty) (k : Fin k0_t1_loop.trips) :
    FVec Ideal S512x128 .bf16 :=
  View.readAt (Elt Ideal) arg2.view (Rect.unit (s := S4096x128) (k0_off1 k) S512x128.size (k0_off1_inb k)).toLoadRect X

/-- The first row of a trip, as the kernel counts it. -/
abbrev tok (k : Fin k0_t1_loop.trips) : BitVec 32 := Scalar.muli (Scf.iv 0#32 1#32 k) 512#32

theorem pay2_eq (v : Vec Ideal S512x128 .bf16) : k0_pay2 (F := Ideal) v = v := by
  unfold k0_pay2; exact shapeCast_self _ _

section
variable (arg2 : Memref sig .tc .vmem S4096x128 .bf16) (X : BufTy.Contents (Elt Ideal) arg2.view.ty) (k : Fin k0_t1_loop.trips)

theorem r_eq : trip_k0_t1.sl.r arg2 X k = rows arg2 X k := pay2_eq _

/-- The greatest magnitudes of the blocks. -/
theorem pay7_eq (v : FVec Ideal S512x128 .bf16) : k0_pay7 (F := Ideal) (iota .tc S8x128 32 [1] iota_S8x128_d1_w32) (k0_pay3 v) (k0_pay4 v) (k0_pay5 v) k0_pay6
    = Tile.groupMax (Tile.rowMax v) := by
  unfold k0_pay7 k0_pay4 k0_pay5 k0_pay3
  rw [pay2_eq]; rfl

theorem r_4_eq : trip_k0_t1.sl.r_4 (F := Ideal) arg2 X k = Tile.groupMax (Tile.rowMax (rows arg2 X k)) := pay7_eq _

theorem r_7_eq : trip_k0_t1.sl.r_7 (F := Ideal) arg2 X k = Tile.shift (Tile.blockExpo (rows arg2 X k)) := by
  unfold Tile.blockExpo
  rw [← r_4_eq]; rfl

theorem r_8_eq : trip_k0_t1.sl.r_8 (F := Ideal) arg2 X k = cmpi .ne (Tile.blockExpo (rows arg2 X k)) (Tile.all 0#32) := by
  unfold Tile.blockExpo
  rw [← r_4_eq]; rfl

theorem r_10_eq : trip_k0_t1.sl.r_10 (F := Ideal) arg2 X k = Tile.tileScale (rows arg2 X k) := by
  unfold Tile.tileScale Tile.blockExpo
  rw [← r_4_eq]; rfl

theorem r_11_eq : trip_k0_t1.sl.r_11 (F := Ideal) arg2 X k = Tile.scaled (rows arg2 X k) (Tile.mult (Tile.blockExpo (rows arg2 X k))) := by
  unfold trip_k0_t1.sl.r_11
  rw [r_eq, r_7_eq, r_8_eq]; rfl

variable (arg0 v0 : BitVec 32)

theorem codes_eq : k0_pay18 (trip_k0_t1.sl.r_11 (F := Ideal) arg2 X k) (trip_k0_t1.sl.r_12 (F := Ideal) arg0 v0 k) 16#32
    = Tile.tileCodes (rows arg2 X k) 3456#32 (tok k) (Scalar.muli arg0 128#32) v0 := by
  rw [r_11_eq]; rfl

theorem deq_eq : k0_pay19 (trip_k0_t1.sl.r_10 (F := Ideal) arg2 X k) (trip_k0_t1.sl.r_11 (F := Ideal) arg2 X k) (trip_k0_t1.sl.r_12 (F := Ideal) arg0 v0 k) 16#32
    = transpose S128x512 [1, 0] (Tile.tileDeq (rows arg2 X k) 3456#32 (tok k) (Scalar.muli arg0 128#32) v0) transposes_S512x128_p1_0_S128x512 := by
  rw [r_11_eq, r_10_eq]; rfl

variable (i : grid0.Coords) (arg4 : Memref sig .tc .vmem S64x108 .f32) (f : BufTy.Contents (Elt Ideal) arg4.view.ty)

theorem scales_eq : k0_pay1 (F := Ideal) i (trip_k0_t1.sl.r_10 (F := Ideal) arg2 X k) (trip_k0_t1.sl.r_13 arg4 k f)
      (k0_pay21 (BitVec.ofNat 32 (i 0).val) (iota .tc S8x128 32 [1] iota_S8x128_d1_w32)) k0_pay22 k0_pay23 128#32
    = select (extractStridedSlice S8x108 ![0, 0] (Tile.mine (BitVec.ofNat 32 (i 0).val)) slices_S8x128_o0_0_S8x108)
        (extractStridedSlice S8x108 ![0, 0] (select (Tile.mine (BitVec.ofNat 32 (i 0).val)) (Tile.compact (Tile.tileScale (rows arg2 X k)))
          (broadcast S8x128 (Scalar.ofBits .f32 0x00000000#32))) slices_S8x128_o0_0_S8x108)
        (View.readAt (Elt Ideal) arg4.view (Rect.unit (s := S64x108) (k0_off3 k) S8x108.size (k0_off3_inb k)).toLoadRect f) := by
  rw [r_10_eq]
  show k0_pay1 (F := Ideal) i _ (k0_pay20 _) _ _ _ _ = _
  rw [show ∀ x, k0_pay20 (F := Ideal) x = x from fun x => shapeCast_self _ _]
  rfl

end

end Cert.QuantDyIdeal.Gen

end
-- ==== Proof.DyLoop.lean ====
/- The loop of the call on dy, trip after trip: the rows of the codes, the columns of the dequantised block and the
   entries of the scales that the trips before `n` wrote, and the entries of the scales that they left. -/
module

public import proofs.«01_k».proof.Proof.DyTrip
public import Idealize.ShloMosaic.Lib.WritesUnit

@[expose] public section

set_option maxRecDepth 16384

noncomputable section

namespace Cert.QuantDyIdeal.Gen

open Idealize.ShloMosaic Idealize.ShloMosaic.TcCoe Idealize.SL.Sem
open Cert.QuantDyIdeal

theorem trips_eq : k0_t1_loop.trips = 8 := by decide +kernel

theorem tok_eq : ∀ k : Fin k0_t1_loop.trips, tok k = BitVec.ofNat 32 (512 * k.val) := by decide +kernel

section
variable (𝒱 : Variants) (c : Dev nD) (bd : Option 𝒱.V) (i : grid0.Coords)
  (arg1 : Memref sig .tc .smem S2 .i32) (harg1 : arg1.IsWhole) (arg2 : Memref sig .tc .vmem S4096x128 .bf16) (harg2 : arg2.IsWhole)
  (arg3 : Memref sig .tc .vmem S4096x128 .i8) (harg3 : arg3.IsWhole) (arg4 : Memref sig .tc .vmem S64x108 .f32) (harg4 : arg4.IsWhole)
  (arg5 : Memref sig .tc .vmem S128x4096 .bf16) (harg5 : arg5.IsWhole) (v0 : BitVec 32)
  (X : BufTy.Contents (Elt Ideal) arg2.view.ty)

/-- The lanes' numbers, as the kernel takes them. -/
abbrev lanes : IVec S8x128 32 := iota .tc S8x128 32 [1] iota_S8x128_d1_w32

/-- A trip's scale entries, from the contents `f` of the scales. -/
def scalesPiece (k : Fin k0_t1_loop.trips) (f : BufTy.Contents (Elt Ideal) arg4.view.ty) : FVec Ideal S8x108 .f32 :=
  select (extractStridedSlice S8x108 ![0, 0] (Tile.mine (BitVec.ofNat 32 (i 0).val)) slices_S8x128_o0_0_S8x108)
    (extractStridedSlice S8x108 ![0, 0] (select (Tile.mine (BitVec.ofNat 32 (i 0).val)) (Tile.compact (Tile.tileScale (rows arg2 X k)))
      (broadcast S8x128 (Scalar.ofBits .f32 0x00000000#32))) slices_S8x128_o0_0_S8x108)
    (View.readAt (Elt Ideal) arg4.view (Rect.unit (s := S64x108) (k0_off3 k) S8x108.size (k0_off3_inb k)).toLoadRect f)

/-- The pieces of a trip. -/
theorem tripL_eq (k : Fin k0_t1_loop.trips) (f3 : BufTy.Contents (Elt Ideal) arg3.view.ty) (f4 : BufTy.Contents (Elt Ideal) arg4.view.ty)
    (f5 : BufTy.Contents (Elt Ideal) arg5.view.ty) :
    tripL_k0_t1 (F := Ideal) 𝒱 c bd i arg1 harg1 arg2 harg2 arg3 harg3 arg4 harg4 arg5 harg5 (BitVec.ofNat 32 (i 0).val) v0 lanes X k f3 f4 f5
      = ([⟨Rect.unit (s := S4096x128) (k0_off1 k) S512x128.size (k0_off1_inb k),
            Tile.tileCodes (rows arg2 X k) 3456#32 (tok k) (Scalar.muli (BitVec.ofNat 32 (i 0).val) 128#32) v0⟩],
         [⟨Rect.unit (s := S64x108) (k0_off3 k) S8x108.size (k0_off3_inb k), scalesPiece i arg2 arg4 X k f4⟩],
         [⟨Rect.unit (s := S128x4096) (k0_off2 k) S128x512.size (k0_off2_inb k),
            transpose S128x512 [1, 0] (Tile.tileDeq (rows arg2 X k) 3456#32 (tok k) (Scalar.muli (BitVec.ofNat 32 (i 0).val) 128#32) v0)
              transposes_S512x128_p1_0_S128x512⟩]) := by
  unfold tripL_k0_t1 trip_k0_t1 scalesPiece
  dsimp only
  rw [codes_eq, deq_eq, scales_eq]

variable {XF : ℕ → ℕ → EReal}
  (hX : ∀ (r : Fin 4096) (l : Fin 128), arg2.view.read (Elt Ideal) X (ValueIdx.ix2 r l) = XF r.val (128 * (i 0).val + l.val))

include hX in
/-- The rows of a trip are a tile of the matrix. -/
theorem rows_tile (k : Fin k0_t1_loop.trips) : Tile.IsTile XF k.val (i 0).val (rows arg2 X k) := by
  intro r l
  have hk : k.val < 8 := Nat.lt_of_lt_of_le k.isLt k0_t1_abs.2.1
  refine Eq.trans ?_ (hX ⟨512 * k.val + r.val, by omega⟩ l)
  show arg2.view.read (Elt Ideal) X _ = _
  congr 1
  funext d
  apply Fin.ext
  show k0_off1 k d + 1 * (ValueIdx.ix2 r l d).val = _
  rw [k0_off1_eq]
  match d with
  | ⟨0, _⟩ => show 512 * k.val + 1 * r.val = 512 * k.val + r.val; omega
  | ⟨1, _⟩ => show 0 + 1 * l.val = l.val; omega

theorem col_eq : Scalar.muli (BitVec.ofNat 32 (i 0).val) 128#32 = BitVec.ofNat 32 (128 * (i 0).val) := by
  show BitVec.ofNat 32 (i 0).val * BitVec.ofNat 32 128 = _
  rw [← BitVec.ofNat_mul, Nat.mul_comm]

variable (G3 : BufTy.Contents (Elt Ideal) arg3.view.ty) (G4 : BufTy.Contents (Elt Ideal) arg4.view.ty) (G5 : BufTy.Contents (Elt Ideal) arg5.view.ty)

/-- The pieces of the trips before `n`. -/
abbrev done (n : ℕ) :=
  pb_k0_t1 (F := Ideal) 𝒱 c bd i arg1 harg1 arg2 harg2 arg3 harg3 arg4 harg4 arg5 harg5 (BitVec.ofNat 32 (i 0).val) v0 lanes X G3 G4 G5 n

theorem done_succ (k : Fin k0_t1_loop.trips) :
    done 𝒱 c bd i arg1 harg1 arg2 harg2 arg3 harg3 arg4 harg4 arg5 harg5 v0 X G3 G4 G5 (k.val + 1)
      = (⟨Rect.unit (s := S4096x128) (k0_off1 k) S512x128.size (k0_off1_inb k),
            Tile.tileCodes (rows arg2 X k) 3456#32 (tok k) (Scalar.muli (BitVec.ofNat 32 (i 0).val) 128#32) v0⟩
            :: (done 𝒱 c bd i arg1 harg1 arg2 harg2 arg3 harg3 arg4 harg4 arg5 harg5 v0 X G3 G4 G5 k.val).1,
         ⟨Rect.unit (s := S64x108) (k0_off3 k) S8x108.size (k0_off3_inb k), scalesPiece i arg2 arg4 X k
            (arg4.view.writes (Elt Ideal) G4 (done 𝒱 c bd i arg1 harg1 arg2 harg2 arg3 harg3 arg4 harg4 arg5 harg5 v0 X G3 G4 G5 k.val).2.1)⟩
            :: (done 𝒱 c bd i arg1 harg1 arg2 harg2 arg3 harg3 arg4 harg4 arg5 harg5 v0 X G3 G4 G5 k.val).2.1,
         ⟨Rect.unit (s := S128x4096) (k0_off2 k) S128x512.size (k0_off2_inb k),
            transpose S128x512 [1, 0] (Tile.tileDeq (rows arg2 X k) 3456#32 (tok k) (Scalar.muli (BitVec.ofNat 32 (i 0).val) 128#32) v0)
              transposes_S512x128_p1_0_S128x512⟩
            :: (done 𝒱 c bd i arg1 harg1 arg2 harg2 arg3 harg3 arg4 harg4 arg5 harg5 v0 X G3 G4 G5 k.val).2.2) := by
  unfold done
  rw [pb_k0_t1_succ, tripL_eq]
  rfl

include hX in
/-- The codes after `n` trips. -/
theorem codes_done (n : ℕ) (hn : n ≤ 8) (r : Fin 4096) (l : Fin 128) (hr : r.val < 512 * n) :
    arg3.view.read (Elt Ideal) (arg3.view.writes (Elt Ideal) G3 (done 𝒱 c bd i arg1 harg1 arg2 harg2 arg3 harg3 arg4 harg4 arg5 harg5 v0 X G3 G4 G5 n).1)
      (ValueIdx.ix2 r l) = Tile.code XF 3456 v0 r.val (128 * (i 0).val + l.val) := by
  induction n with
  | zero => omega
  | succ n ih =>
    have hk : n < k0_t1_loop.trips := by rw [trips_eq]; omega
    rw [done_succ 𝒱 c bd i arg1 harg1 arg2 harg2 arg3 harg3 arg4 harg4 arg5 harg5 v0 X G3 G4 G5 ⟨n, hk⟩]
    dsimp only
    by_cases h : r.val < 512 * n
    · rw [View.read_writes_cons_unit_of_not_mem _ _ _ _ _ _ (k0_off1_eq ⟨n, hk⟩) (0 : Fin 2) (.inl h)]
      exact ih (by omega) h
    · refine (View.read_writes_cons_unit_of_mem (s := S4096x128) _ _ (size := S512x128.size) _ _ _ (ValueIdx.ix2 r l) (ValueIdx.ix2 (⟨r.val - 512 * n, by omega⟩ : Fin 512) l) (k0_off1_eq ⟨n, hk⟩)
        (Fin.forall_fin_two.mpr ⟨by show r.val = 512 * n + (r.val - 512 * n); omega, by show l.val = 0 + l.val; omega⟩)).trans ?_
      rw [tok_eq, col_eq]
      refine (Tile.tileCodes_eq (rows_tile i arg2 X hX ⟨n, hk⟩) 3456 v0 _ l).trans ?_
      congr 1
      show 512 * n + (r.val - 512 * n) = r.val; omega

include hX in
/-- The dequantised block after `n` trips. -/
theorem deq_done (n : ℕ) (hn : n ≤ 8) (l : Fin 128) (r : Fin 4096) (hr : r.val < 512 * n) :
    arg5.view.read (Elt Ideal) (arg5.view.writes (Elt Ideal) G5 (done 𝒱 c bd i arg1 harg1 arg2 harg2 arg3 harg3 arg4 harg4 arg5 harg5 v0 X G3 G4 G5 n).2.2)
      (ValueIdx.ix2 l r) = Tile.dq XF 3456 v0 r.val (128 * (i 0).val + l.val) := by
  induction n with
  | zero => omega
  | succ n ih =>
    have hk : n < k0_t1_loop.trips := by rw [trips_eq]; omega
    rw [done_succ 𝒱 c bd i arg1 harg1 arg2 harg2 arg3 harg3 arg4 harg4 arg5 harg5 v0 X G3 G4 G5 ⟨n, hk⟩]
    dsimp only
    by_cases h : r.val < 512 * n
    · rw [View.read_writes_cons_unit_of_not_mem _ _ _ _ _ _ (k0_off2_eq ⟨n, hk⟩) (1 : Fin 2) (.inl h)]
      exact ih (by omega) h
    · refine (View.read_writes_cons_unit_of_mem (s := S128x4096) _ _ (size := S128x512.size) _ _ _ (ValueIdx.ix2 l r) (ValueIdx.ix2 l (⟨r.val - 512 * n, by omega⟩ : Fin 512)) (k0_off2_eq ⟨n, hk⟩)
        (Fin.forall_fin_two.mpr ⟨by show l.val = 0 + l.val; omega, by show r.val = 512 * n + (r.val - 512 * n); omega⟩)).trans ?_
      rw [tok_eq, col_eq]
      have ht : ∀ (x : FVec Ideal S512x128 .bf16) (a : Fin 512), transpose S128x512 [1, 0] x transposes_S512x128_p1_0_S128x512 (ValueIdx.ix2 l a)
          = x (ValueIdx.ix2 a l) := by
        intro x a
        pointwise
        try rfl
      rw [ht]
      refine (Tile.tileDeq_eq (rows_tile i arg2 X hX ⟨n, hk⟩) 3456 v0 _ l).trans ?_
      congr 1
      show 512 * n + (r.val - 512 * n) = r.val; omega

include hX in
/-- The scales after `n` trips: those of the rows done, in the tile's own four columns; elsewhere what was there. -/
theorem scales_done (n : ℕ) (hn : n ≤ 8) (b : Fin 64) (g : Fin 108) :
    arg4.view.read (Elt Ideal) (arg4.view.writes (Elt Ideal) G4 (done 𝒱 c bd i arg1 harg1 arg2 harg2 arg3 harg3 arg4 harg4 arg5 harg5 v0 X G3 G4 G5 n).2.1)
      (ValueIdx.ix2 b g) = if b.val < 8 * n ∧ g.val / 4 = (i 0).val then Tile.scl XF b.val g.val else arg4.view.read (Elt Ideal) G4 (ValueIdx.ix2 b g) := by
  induction n with
  | zero => rw [if_neg (by omega)]; rfl
  | succ n ih =>
    have hk : n < k0_t1_loop.trips := by rw [trips_eq]; omega
    have hi : (i 0).val < 27 := (i 0).isLt
    rw [done_succ 𝒱 c bd i arg1 harg1 arg2 harg2 arg3 harg3 arg4 harg4 arg5 harg5 v0 X G3 G4 G5 ⟨n, hk⟩]
    dsimp only
    by_cases h : 8 * n ≤ b.val ∧ b.val < 8 * n + 8
    · refine (View.read_writes_cons_unit_of_mem (s := S64x108) _ _ (size := S8x108.size) _ _ _ (ValueIdx.ix2 b g) (ValueIdx.ix2 (⟨b.val - 8 * n, by omega⟩ : Fin 8) g) (k0_off3_eq ⟨n, hk⟩)
        (Fin.forall_fin_two.mpr ⟨by show b.val = 8 * n + (b.val - 8 * n); omega, by show g.val = 0 + g.val; omega⟩)).trans ?_
      have hm : Tile.mine (BitVec.ofNat 32 (i 0).val) (ValueIdx.ix2 (⟨b.val - 8 * n, by omega⟩ : Fin 8) (⟨g.val, by omega⟩ : Fin 128))
          = BitVec.ofBool (decide (g.val / 4 = (i 0).val)) := Tile.mine_apply _ (by omega) _ _
      have hs : ∀ {α : Type} (x : S8x128.Idx → α), extractStridedSlice S8x108 ![0, 0] x slices_S8x128_o0_0_S8x108 (ValueIdx.ix2 (⟨b.val - 8 * n, by omega⟩ : Fin 8) g)
          = x (ValueIdx.ix2 (⟨b.val - 8 * n, by omega⟩ : Fin 8) (⟨g.val, by omega⟩ : Fin 128)) := by
        intro α x
        refine extractStridedSlice_apply _ _ _ _ _ fun a => ?_
        match a with
        | ⟨0, _⟩ => show b.val - 8 * n = 0 + (b.val - 8 * n); omega
        | ⟨1, _⟩ => show g.val = 0 + g.val; omega
      show Scalar.select (extractStridedSlice S8x108 ![0, 0] (Tile.mine (BitVec.ofNat 32 (i 0).val)) slices_S8x128_o0_0_S8x108 (ValueIdx.ix2 (⟨b.val - 8 * n, by omega⟩ : Fin 8) g))
        (extractStridedSlice S8x108 ![0, 0] (select (Tile.mine (BitVec.ofNat 32 (i 0).val)) (Tile.compact (Tile.tileScale (rows arg2 X ⟨n, hk⟩)))
          (broadcast S8x128 (Scalar.ofBits .f32 0x00000000#32))) slices_S8x128_o0_0_S8x108 (ValueIdx.ix2 (⟨b.val - 8 * n, by omega⟩ : Fin 8) g))
        (arg4.view.read (Elt Ideal) _ _) = _
      rw [hs, hs, hm, Tile.select_ofBool]
      by_cases hg : g.val / 4 = (i 0).val
      · rw [if_pos hg, if_pos ⟨by omega, hg⟩]
        show Scalar.select (Tile.mine (BitVec.ofNat 32 (i 0).val) _) (Tile.compact (Tile.tileScale (rows arg2 X ⟨n, hk⟩)) _) _ = _
        rw [hm, Tile.select_ofBool, if_pos hg, Tile.compact_eq (rows_tile i arg2 X hX ⟨n, hk⟩)]
        congr 1
        · show 8 * n + (b.val - 8 * n) = b.val; omega
        · show 4 * (i 0).val + g.val % 4 = g.val; omega
      · rw [if_neg hg, if_neg (fun hc => hg hc.2)]
        rw [if_neg (fun hc => hg hc.2)] at ih
        rw [← ih (by omega)]
        congr 1
        funext d
        apply Fin.ext
        show k0_off3 ⟨n, hk⟩ d + 1 * (ValueIdx.ix2 (⟨b.val - 8 * n, by omega⟩ : Fin 8) g d).val = _
        rw [k0_off3_eq]
        match d with
        | ⟨0, _⟩ => show 8 * n + 1 * (b.val - 8 * n) = b.val; omega
        | ⟨1, _⟩ => show 0 + 1 * g.val = g.val; omega
    · rw [View.read_writes_cons_unit_of_not_mem _ _ _ _ _ _ (k0_off3_eq ⟨n, hk⟩) (0 : Fin 2)
        (by show b.val < 8 * n ∨ 8 * n + 8 ≤ b.val; omega), ih (by omega)]
      have : (b.val < 8 * n ∧ g.val / 4 = (i 0).val) ↔ (b.val < 8 * (n + 1) ∧ g.val / 4 = (i 0).val) := by omega
      simp only [this]

end

end Cert.QuantDyIdeal.Gen

end
-- ==== Proof.DyRun.lean ====
/- The body of the call on dy, run once at any grid point: what it leaves in its three outputs, in the terms of `Spec`. -/
module

public import proofs.«01_k».proof.Proof.DyLoop
public import proofs.«01_k».proof.Proof.Gen.QuantDyIdeal.Frame
public import Idealize.ShloMosaic.Lib.Claim

@[expose] public section

set_option maxRecDepth 16384

noncomputable section

namespace Cert.QuantDyIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The codes of tile `j` of the matrix `XF`. -/
def CodesOf (XF : ℕ → ℕ → EReal) (seed : BitVec 32) (j : ℕ) (d : Vec Ideal S4096x128 .i8) : Prop :=
  ∀ (r : Fin 4096) (l : Fin 128), d (ValueIdx.ix2 r l) = Tile.code XF 3456 seed r.val (128 * j + l.val)

/-- The dequantised entries of tile `j`, transposed. -/
def DeqOf (XF : ℕ → ℕ → EReal) (seed : BitVec 32) (j : ℕ) (d : Vec Ideal S128x4096 .bf16) : Prop :=
  ∀ (l : Fin 128) (r : Fin 4096), d (ValueIdx.ix2 l r) = Tile.dq XF 3456 seed r.val (128 * j + l.val)

/-- The scales of the tiles up to `j`. -/
def ScalesTo (XF : ℕ → ℕ → EReal) (j : ℕ) (d : Vec Ideal S64x108 .f32) : Prop :=
  ∀ (b : Fin 64) (g : Fin 108), g.val / 4 ≤ j → d (ValueIdx.ix2 b g) = Tile.scl XF b.val g.val

/-- The seed of dy: the second of the two. -/
def seedOf (x0 : Vec Ideal S2 .i32) : BitVec 32 := x0 (ValueIdx.ix1 (1 : Fin 2))

set_option maxHeartbeats 1000000 in
/-- The body's run: from the block of `XF` and the scales of the tiles before, to the codes and the dequantised block of this tile
    and the scales of the tiles up to this one. -/
theorem kernelRun (c : Dev nD) (i : grid0.Coords) (arg1 : Memref sig .tc .smem S2 .i32) (harg1 : arg1.IsWhole)
    (arg2 : Memref sig .tc .vmem S4096x128 .bf16) (harg2 : arg2.IsWhole) (arg3 : Memref sig .tc .vmem S4096x128 .i8) (harg3 : arg3.IsWhole)
    (arg4 : Memref sig .tc .vmem S64x108 .f32) (harg4 : arg4.IsWhole) (arg5 : Memref sig .tc .vmem S128x4096 .bf16) (harg5 : arg5.IsWhole)
    (x0 : Vec Ideal S2 .i32) (x1 : Vec Ideal S4096x128 .bf16) (x3 : Vec Ideal S64x108 .f32) (XF : ℕ → ℕ → EReal)
    (hX : ∀ (r : Fin 4096) (l : Fin 128), x1 (ValueIdx.ix2 r l) = XF r.val (128 * (i 0).val + l.val))
    (h3 : ∀ (b : Fin 64) (g : Fin 108), g.val / 4 < (i 0).val → x3 (ValueIdx.ix2 b g) = Tile.scl XF b.val g.val)
    (E : Set ℕ) (K : PUnit → sProp 𝕄) :
        iprop(owns (c : Thread nD τ) arg1 fullShare x0 ∗ owns (c : Thread nD τ) arg2 fullShare x1 ∗ (∃ d, owns (c : Thread nD τ) arg3 fullShare d)
            ∗ owns (c : Thread nD τ) arg4 fullShare x3 ∗ (∃ d, owns (c : Thread nD τ) arg5 fullShare d)
            ∗ (iprop(owns (c : Thread nD τ) arg1 fullShare x0 ∗ owns (c : Thread nD τ) arg2 fullShare x1
                ∗ (∃ d, ⌜CodesOf XF (seedOf x0) (i 0).val d⌝ ∗ owns (c : Thread nD τ) arg3 fullShare d)
                ∗ (∃ d, ⌜ScalesTo XF (i 0).val d⌝ ∗ owns (c : Thread nD τ) arg4 fullShare d)
                ∗ (∃ d, ⌜DeqOf XF (seedOf x0) (i 0).val d⌝ ∗ owns (c : Thread nD τ) arg5 fullShare d)) -∗ K ⟨⟩))
          ⊢ wp frame (wpE (defs₀ (F := Ideal)) Variants.none c none) E (cc0_quant_dy i arg1 harg1 arg2 harg2 arg3 harg3 arg4 harg4 arg5 harg5) K := by
  simp only [cc0_quant_dy_eq_skeleton]; unfold cc0_quant_dy_skel
  unfold owns
  iintro ⟨⟨%f0, %hf0, H0⟩, ⟨%f1, %hf1, H1⟩, ⟨%d2, %f2, -, H2⟩, ⟨%f3, %hf3, H3⟩, ⟨%d4, %f4, -, H4⟩, Hk⟩
  obtain rfl := harg1.eq_unread hf0; obtain rfl := harg2.eq_unread hf1
  have hX' : ∀ (r : Fin 4096) (l : Fin 128), arg2.view.read (Elt Ideal) (harg2.unread x1) (ValueIdx.ix2 r l) = XF r.val (128 * (i 0).val + l.val) := by
    intro r l; rw [harg2.read_unread]; exact hX r l
  sl_exec
  have seed_eq : kernelRun.sl.r c arg1 harg1 x0 = seedOf x0 := by
    unfold kernelRun.sl.r seedOf
    show arg1.view.read (Elt Ideal) (harg1.unread x0) _ = _
    rw [harg1.read_unread]
    congr 1
    funext a
    match a with
    | ⟨0, _⟩ => rfl
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap
    · iexists _; isplitr; swap; · iexact H2
      ipureintro; rfl
    ipureintro
    intro r l
    refine (codes_done _ c _ i arg1 harg1 arg2 harg2 arg3 harg3 arg4 harg4 arg5 harg5 _ _ hX' _ _ _ 8 (Nat.le_refl _) r l (by omega)).trans ?_
    rw [seed_eq]
  isplitl [H3]
  · iexists _; isplitr; swap
    · iexists _; isplitr; swap; · iexact H3
      ipureintro; rfl
    ipureintro
    intro b g hg
    refine (scales_done _ c _ i arg1 harg1 arg2 harg2 arg3 harg3 arg4 harg4 arg5 harg5 _ _ hX' _ _ _ 8 (Nat.le_refl _) b g).trans ?_
    by_cases h : g.val / 4 = (i 0).val
    · rw [if_pos ⟨by omega, h⟩]
    · rw [if_neg (fun hc => h hc.2), hf3]
      exact h3 b g (by omega)
  iexists _; isplitr; swap
  · iexists _; isplitr; swap; · iexact H4
    ipureintro; rfl
  ipureintro
  intro l r
  refine (deq_done _ c _ i arg1 harg1 arg2 harg2 arg3 harg3 arg4 harg4 arg5 harg5 _ _ hX' _ _ _ 8 (Nat.le_refl _) l r (by omega)).trans ?_
  rw [seed_eq]

end Cert.QuantDyIdeal.Gen

end
-- ==== Proof.DyBody.lean ====
/- The call on dy as a pipeline: its proof data, which hold each output to what `Spec` says of the current tile (the scales, which stay
   in place from point to point, to what it says of the tiles up to the current one), and the run to the end. -/
module

public import proofs.«01_k».proof.Proof.DyRun
public import Idealize.ShloMosaic.Lib.Pipeline.DatRel
public import Idealize.ShloMosaic.Lib.Pipeline.ArrRel

@[expose] public section

set_option maxRecDepth 16384

noncomputable section

namespace Cert.QuantDyIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (UR sig nD τ) ℕ

variable (m : (ℓ : Loc nD τ sig) → Buf (Elt Ideal) ℓ) (ρ : Dev nD → PrngReg)

/-- dy as a matrix. -/
def dyMat (c : Dev nD) : ℕ → ℕ → EReal :=
  Tile.mat fun (a : Fin 2) (b : Fin 2048) (g : Fin 3456) => (m ((c : Thread nD τ).loc main_arg0) (ValueIdx.ix3 a b g) : EReal)

/-- Its seed. -/
def dySeed (c : Dev nD) : BitVec 32 := m ((c : Thread nD τ).loc main_arg1) (ValueIdx.ix1 (1 : Fin 2))

theorem coords_val : ∀ t : Fin cfg0.N, (grid0.coords t 0).val = t.val := by decide +kernel

theorem index_0 : ∀ t : Fin cfg0.N, win0_0.index t = ![0] := by decide +kernel

theorem fetch_3 : ∀ t : Fin cfg0.N, (cfg0.win 3).fetch t = false := by decide +kernel

theorem index_1 : ∀ t : Fin cfg0.N, win0_1.index t = ![0, t.val] := by decide +kernel

theorem iblk_0 (c : Dev nD) (t : Fin cfg0.N) : seedOf (iblk m c 0 t) = dySeed m c := by
  unfold seedOf dySeed iblk
  entry_read
  blk_ext [V, index_0]

theorem iblk_1 (c : Dev nD) (t : Fin cfg0.N) (r : Fin 4096) (l : Fin 128) :
    (iblk m c 1 t : Vec Ideal S4096x128 .bf16) (ValueIdx.ix2 r l) = dyMat m c r.val (128 * (grid0.coords t 0).val + l.val) := by
  have ht : t.val < 27 := Nat.lt_of_lt_of_eq t.isLt N_0
  unfold dyMat Tile.mat iblk
  rw [dif_pos ⟨r.isLt, by rw [coords_val]; omega⟩]
  entry_read
  have e : (win0_1.blk t).view.emb (ValueIdx.ix2 r l) = ValueIdx.ix2 (⟨r.val, r.isLt⟩ : Fin 4096) (⟨128 * t.val + l.val, by omega⟩ : Fin 3456) := by
    blk_ext [index_1]
    show t.val * 128 + l.val = 128 * t.val + l.val
    omega
  show shapeCast main_v1.ty.shape (m (c, Proc.tc.devRef main_arg0)) shapeCasts_S2x2048x3456_S4096x3456 ((win0_1.blk t).view.emb (ValueIdx.ix2 r l)) = _
  rw [e]
  have hc := coords_val t
  refine (shapeCast_apply _ _ _ (ValueIdx.ix3 (⟨r.val / 2048, by omega⟩ : Fin 2) (⟨r.val % 2048, by omega⟩ : Fin 2048) (⟨128 * t.val + l.val, by omega⟩ : Fin 3456)) ?_).trans ?_
  · refine (Shape.rowMajor_val_three _).trans (Eq.trans ?_ (Shape.rowMajor_val_two _).symm)
    show ((r.val / 2048) * 2048 + r.val % 2048) * 3456 + (128 * t.val + l.val) = r.val * 3456 + (128 * t.val + l.val)
    omega
  · simp only [hc]

/-- The windows held to a relation: the three outputs. -/
def marked : Fin 5 → Bool := fun w => w.val == 2 || w.val == 3 || w.val == 4

/-- What the body leaves in each output. -/
def Leaves (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun X => CodesOf (dyMat m c) (dySeed m c) (grid0.coords t 0).val X
  | ⟨3, _⟩ => fun X => ScalesTo (dyMat m c) (grid0.coords t 0).val X
  | ⟨4, _⟩ => fun X => DeqOf (dyMat m c) (dySeed m c) (grid0.coords t 0).val X

/-- The proof data: the arrays as the region finds them, each input's block in place, nothing owed, full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The data with the outputs held to `Leaves`. -/
abbrev rdats (c : Dev nD) : Pipeline.RDat τ (Elt Ideal) Unit ℕ (UR sig nD τ) ℕ cfg0 c := (dats m 0 c).toRRel marked (Leaves m c)

/-- The scales found at a point are right for the tiles before. -/
theorem scales_found (c : Dev nD) (t : Fin cfg0.N) (Y : Vec Ideal S64x108 .f32) (h : (rdats m c).Finds 3 t Y)
    (b : Fin 64) (g : Fin 108) (hg : g.val / 4 < (grid0.coords t 0).val) : Y (ValueIdx.ix2 b g) = Tile.scl (dyMat m c) b.val g.val := by
  have ht : t.val < 27 := Nat.lt_of_lt_of_eq t.isLt N_0
  rw [coords_val] at hg
  rw [Pipeline.RDat.finds_of_pos _ (fetch_3 t) (by omega)] at h
  rcases h with h | h
  · have := (flush0_3 _).mp h
    dsimp only at this
    omega
  · have h' := (dats m 0 c).toRRel_leaves (w := 3) rfl h
    have h'' : ScalesTo (dyMat m c) (grid0.coords (⟨t.val - 1, by omega⟩ : Fin cfg0.N) 0).val Y := h'
    refine h'' b g ?_
    rw [coords_val]
    show g.val / 4 ≤ t.val - 1
    omega

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, ⌜(rdats m c).Finds 2 t d⌝ ∗ owns (c : Thread nD τ) (win0_2.stage (cfg0.slots t 2)) fullShare d)
    ∗ (∃ d, ⌜(rdats m c).Finds 3 t d⌝ ∗ owns (c : Thread nD τ) (win0_3.stage (cfg0.slots t 3)) fullShare d)
    ∗ (∃ d, ⌜(rdats m c).Finds 4 t d⌝ ∗ owns (c : Thread nD τ) (win0_4.stage (cfg0.slots t 4)) fullShare d))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (∃ d, ⌜Leaves m c 2 t d⌝ ∗ owns (c : Thread nD τ) (win0_2.stage (cfg0.slots t 2)) fullShare d)
    ∗ (∃ d, ⌜Leaves m c 3 t d⌝ ∗ owns (c : Thread nD τ) (win0_3.stage (cfg0.slots t 3)) fullShare d)
    ∗ (∃ d, ⌜Leaves m c 4 t d⌝ ∗ owns (c : Thread nD τ) (win0_4.stage (cfg0.slots t 4)) fullShare d))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, -, H2⟩, ⟨%d3, %h3, H3⟩, ⟨%d4, -, H4⟩⟩
  iapply ((kernelRun c (grid0.coords t) _ _ _ _ _ _ _ _ _ _ (iblk m c 0 t) (iblk m c 1 t) d3 (dyMat m c) (iblk_1 m c t) (scales_found m c t d3 h3)) Set.univ _)
  rw [iblk_0]
  isplitl [H0]; · iexact H0
  isplitl [H1]; · iexact H1
  isplitl [H2]; · iexists _; iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    Pipeline.BodyObligationRel (dats m 0 c) (defs₀ (F := Ideal)) Variants.none () Set.univ marked (Leaves m c) := fun t => by
  rw [bigSep_W0, bigSep_W0, defs₀_row]
  exact triple_restated (sound_body m c t) rfl .rfl fun _ => .rfl

set_option backward.isDefEq.respectTransparency.types false in
/-- The run of the whole program, and every counter at zero at its end. -/
theorem run_main : θ_run defs (onTc (τ := τ) (main (F := Ideal))) (s₀ m ρ)
    (fun r => (Pipeline.RDat.FramePost (cfgs 0) (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

end Cert.QuantDyIdeal.Gen

end
-- ==== Proof.DyValue.lean ====
/- The three arrays that the call on dy returns, element by element. -/
module

public import proofs.«01_k».proof.Proof.DyBody

@[expose] public section

set_option maxRecDepth 16384

noncomputable section

namespace Cert.QuantDyIdeal.Gen

open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The codes of dy. -/
def dyCodes (c : Dev nD) : Vec Ideal S4096x3456 .i8 := fun i => Tile.code (dyMat m c) 3456 (dySeed m c) (i 0).val (i 1).val

/-- The scales of dy. -/
def dyScales (c : Dev nD) : Vec Ideal S64x108 .f32 := fun i => Tile.scl (dyMat m c) (i 0).val (i 1).val

/-- dy dequantised and transposed. -/
def dyDeq (c : Dev nD) : Vec Ideal S3456x4096 .bf16 := fun i => Tile.dq (dyMat m c) 3456 (dySeed m c) (i 1).val (i 0).val

theorem index_2 : ∀ t : Fin cfg0.N, win0_2.index t = ![0, t.val] := by decide +kernel
theorem index_3 : ∀ t : Fin cfg0.N, win0_3.index t = ![0, 0] := by decide +kernel
theorem index_4 : ∀ t : Fin cfg0.N, win0_4.index t = ![t.val, 0] := by decide +kernel

section
variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdats m c).Leaves w u (after w u))

include hL

theorem codes_array : ((rdats m c).withAfter after).arrAt 2 cfg0.N = dyCodes m c := by
  refine Dat.arrAt_eq_of_covers _ 2 _ (by decide +kernel) fun t hf y => ?_
  have h : CodesOf (dyMat m c) (dySeed m c) (grid0.coords t 0).val (after 2 t) := (dats m 0 c).toRRel_leaves (w := 2) rfl (hL 2 t hf)
  rw [coords_val] at h
  have h' := h (y 0) (y 1)
  have e0 : ((win0_2.blk t).view.emb y 0).val = (y 0).val := by blk_simp [index_2]; try omega
  have e1 : ((win0_2.blk t).view.emb y 1).val = 128 * t.val + (y 1).val := by blk_simp [index_2]; try omega
  unfold dyCodes
  show after 2 t y = Tile.code _ _ _ ((win0_2.blk t).view.emb y 0).val ((win0_2.blk t).view.emb y 1).val
  rw [e0, e1, ← h']
  exact congrArg (after 2 t) (ValueIdx.eq_ix2 y)

theorem scales_array : ((rdats m c).withAfter after).arrAt 3 cfg0.N = dyScales m c := by
  refine Dat.arrAt_eq_of_covers _ 3 _ (by decide +kernel) fun t hf y => ?_
  have h : ScalesTo (dyMat m c) (grid0.coords t 0).val (after 3 t) := (dats m 0 c).toRRel_leaves (w := 3) rfl (hL 3 t hf)
  rw [coords_val] at h
  have ht := (flush0_3 t).mp hf
  have hy : (y 1).val < 108 := (y 1).isLt
  have h' := h (y 0) (y 1) (by omega)
  have e0 : ((win0_3.blk t).view.emb y 0).val = (y 0).val := by blk_simp [index_3]; try omega
  have e1 : ((win0_3.blk t).view.emb y 1).val = (y 1).val := by blk_simp [index_3]; try omega
  unfold dyScales
  show after 3 t y = Tile.scl _ ((win0_3.blk t).view.emb y 0).val ((win0_3.blk t).view.emb y 1).val
  rw [e0, e1, ← h']
  exact congrArg (after 3 t) (ValueIdx.eq_ix2 y)

theorem deq_array : ((rdats m c).withAfter after).arrAt 4 cfg0.N = dyDeq m c := by
  refine Dat.arrAt_eq_of_covers _ 4 _ (by decide +kernel) fun t hf y => ?_
  have h : DeqOf (dyMat m c) (dySeed m c) (grid0.coords t 0).val (after 4 t) := (dats m 0 c).toRRel_leaves (w := 4) rfl (hL 4 t hf)
  rw [coords_val] at h
  have h' := h (y 0) (y 1)
  have e0 : ((win0_4.blk t).view.emb y 0).val = 128 * t.val + (y 0).val := by blk_simp [index_4]; try omega
  have e1 : ((win0_4.blk t).view.emb y 1).val = (y 1).val := by blk_simp [index_4]; try omega
  unfold dyDeq
  show after 4 t y = Tile.dq _ _ _ ((win0_4.blk t).view.emb y 1).val ((win0_4.blk t).view.emb y 0).val
  rw [e0, e1, ← h']
  exact congrArg (after 4 t) (ValueIdx.eq_ix2 y)

end

/-- The whole run: the results, the arguments as they were, the counters at zero. -/
theorem run : θ_run defs (onTc (τ := τ) (main (F := Ideal))) ⟨m, fun _ => 0, ρ⟩ (fun r => (∀ c : Dev nD,
      r.2.mem ((c.tc : Thread nD τ).loc main_v2_0) = dyCodes m c
      ∧ r.2.mem ((c.tc : Thread nD τ).loc main_v2_1) = dyScales m c
      ∧ r.2.mem ((c.tc : Thread nD τ).loc main_v2_2) = dyDeq m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ?_, h.2⟩) (run_main m ρ)
  obtain ⟨after, hL, hA⟩ := Pipeline.RDat.FramePost.exists_exact h.1 c
  exact ⟨(hA 2).trans (codes_array m c after hL), (hA 3).trans (scales_array m c after hL), (hA 4).trans (deq_array m c after hL),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩

end Cert.QuantDyIdeal.Gen

end
-- ==== Proof.DyClaim.lean ====
/- The claims on the call on dy: its idealization and the reference return the same arrays. -/
module

public import proofs.«01_k».proof.Defs
public import proofs.«01_k».proof.Proof.DyRef
public import proofs.«01_k».proof.Proof.DyValue
public import proofs.«01_k».proof.Proof.Gen.ReferenceDyIdeal
public import proofs.«01_k».proof.Proof.Gen.ReferenceDyIdeal.Run

@[expose] public section

set_option maxRecDepth 16384

noncomputable section

namespace Cert.Proof

open Idealize.ShloMosaic Idealize.ShloMosaic.TcCoe Idealize.SL.Sem

/-- The idealized call on dy leaves its arguments, and its counters end at zero. -/
theorem frame_dyIdeal : Cert.quiescent_QuantDyIdeal (hQuantDyIdeal := Cert.QuantDyIdeal.Gen.facts) := fun m ρ _ =>
  (θ_run (Cert.QuantDyIdeal.defs (F := Ideal)) _ _).mono (fun _ h => ⟨fun c => (h.1 c).2.2.2, h.2⟩) (Cert.QuantDyIdeal.Gen.run m ρ)

/-- The reference of dy leaves its arguments; it has no counter. -/
theorem frame_dyRef : Cert.quiescent_ReferenceDyIdeal (hReferenceDyIdeal := Cert.ReferenceDyIdeal.Gen.facts) := fun m ρ _ =>
  (θ_run (Cert.ReferenceDyIdeal.defs (F := Ideal)) _ _).mono (fun r h => ⟨fun c => (h c).2.2.2, sem_eq_zero_of_no_sems (by decide) r.2⟩)
    (Cert.ReferenceDyIdeal.Value.run m ρ)

/-- Codes, scales and the dequantised dy are the reference's. -/
theorem algebraic_dy : Cert.algebraic_QuantDyIdeal_ReferenceDyIdeal (hQuantDyIdeal := Cert.QuantDyIdeal.Gen.facts)
    (hReferenceDyIdeal := Cert.ReferenceDyIdeal.Gen.facts) := by
  intro m g m' g' _ hag
  refine ⟨Cert.QuantDyIdeal.Gen.dyCodes m, Cert.QuantDyIdeal.Gen.dyScales m, Cert.QuantDyIdeal.Gen.dyDeq m,
    (θ_run (Cert.QuantDyIdeal.defs (F := Ideal)) _ _).mono (fun _ h => h.1) (Cert.QuantDyIdeal.Gen.run m g),
    (θ_run (Cert.ReferenceDyIdeal.defs (F := Ideal)) _ _).mono (fun r h c => ⟨(h c).1.trans ?_, (h c).2.1.trans ?_, (h c).2.2.1.trans ?_, (h c).2.2.2⟩)
      (Cert.ReferenceDyIdeal.Value.run m' g')⟩
  · refine (Cert.ReferenceDyIdeal.Read.val_main_v94_eq m' c).trans ?_
    rw [(hag c).1, (hag c).2]
    funext i
    exact (congrArg _ (ValueIdx.eq_ix2 i)).trans (Cert.ReferenceDyIdeal.Read.codes_apply _ _ (i 0) (i 1))
  · refine (Cert.ReferenceDyIdeal.Read.val_main_v106_eq m' c).trans ?_
    rw [(hag c).1]
    funext i
    exact (congrArg _ (ValueIdx.eq_ix2 i)).trans (Cert.ReferenceDyIdeal.Read.scales_apply _ (i 0) (i 1))
  · refine (Cert.ReferenceDyIdeal.Read.val_main_v107_eq m' c).trans ?_
    rw [(hag c).1, (hag c).2]
    funext i
    exact (congrArg _ (ValueIdx.eq_ix2 i)).trans (Cert.ReferenceDyIdeal.Read.deqT_apply _ _ (i 0) (i 1))

end Cert.Proof

end
-- ==== Proof.KRef.lean ====
/- The reference of x and of dw read at an index: the same functions of `Spec`. -/
module

public import proofs.«01_k».proof.Proof.TileValue
public import proofs.«01_k».proof.Proof.Gen.ReferenceIdeal.Read

@[expose] public section

set_option maxRecDepth 16384

noncomputable section

namespace Cert.ReferenceIdeal.Read

open Idealize.ShloMosaic Idealize.ShloMosaic.TcCoe
open Cert.ReferenceIdeal

variable (x0 : Vec Ideal S2x2048x12288 .bf16) (x2 : Vec Ideal S2 .i32)

/-- The argument as a matrix. -/
abbrev xm : ℕ → ℕ → EReal := Tile.mat fun (a : Fin 2) (b : Fin 2048) (g : Fin 12288) => (x0 (ValueIdx.ix3 a b g) : EReal)

/-- The row of the matrix at block row `d`, `B` and row `r` within the block. -/
abbrev row (d : Fin 2) (B : Fin 32) (r : Fin 64) : ℕ := 64 * (32 * d.val + B.val) + r.val

theorem x_apply (d : Fin 2) (B : Fin 32) (r : Fin 64) (c : Fin 12288) :
    (val_main_v3 (F := Ideal) x0 (ValueIdx.ix4 d B r c) : EReal) = xm x0 (row d B r) c.val := by
  rw [val_main_v3_apply, val_main_v2_apply]
  unfold xm Tile.mat
  rw [dif_pos ⟨by show 64 * (32 * d.val + B.val) + r.val < 4096; omega, c.isLt⟩]
  show x0 _ = x0 _
  congr 1
  funext a
  apply Fin.ext
  match a with
  | ⟨0, _⟩ => show (((d.val * 32 + B.val) * 64 + r.val) * 12288 + c.val) / 25165824 = (64 * (32 * d.val + B.val) + r.val) / 2048; omega
  | ⟨1, _⟩ => show (((d.val * 32 + B.val) * 64 + r.val) * 12288 + c.val) / 12288 % 2048 = (64 * (32 * d.val + B.val) + r.val) % 2048; omega
  | ⟨2, _⟩ => show (((d.val * 32 + B.val) * 64 + r.val) * 12288 + c.val) % 12288 = c.val; omega

theorem colMax_apply (d : Fin 2) (B : Fin 32) (c : Fin 12288) : (val_main_v5 (F := Ideal) x0 (ValueIdx.ix3 d B c) : EReal)
    = (Finset.univ : Finset (Fin 64)).sup fun r => Tile.mag (xm x0 (row d B r) c.val) := by
  unfold val_main_v5
  pointwise
  refine (Tile.fold_max _ _).trans (Finset.sup_congr rfl fun r _ => ?_)
  show Tile.mag (val_main_v3 (F := Ideal) x0 (ValueIdx.ix4 d B r c)) = _
  rw [x_apply]

theorem amax_apply (d : Fin 2) (B : Fin 32) (G : Fin 384) : (val_main_v7 (F := Ideal) x0 (ValueIdx.ix3 d B G) : EReal)
    = Tile.amax (xm x0) (32 * d.val + B.val) G.val := by
  unfold val_main_v7
  pointwise
  rw [Tile.amax_cols]
  refine (Tile.fold_max _ _).trans (Finset.sup_congr rfl fun c _ => ?_)
  show (val_main_v6 (F := Ideal) x0 (ValueIdx.ix4 d B G c) : EReal) = _
  rw [val_main_v6_apply]
  have hc : 32 * G.val + c.val < 12288 := by omega
  refine (congrArg (val_main_v5 (F := Ideal) x0) ?_).trans (colMax_apply x0 d B ⟨32 * G.val + c.val, hc⟩)
  funext a
  apply Fin.ext
  match a with
  | ⟨0, _⟩ => show (((d.val * 32 + B.val) * 384 + G.val) * 32 + c.val) / 393216 = d.val; omega
  | ⟨1, _⟩ => show (((d.val * 32 + B.val) * 384 + G.val) * 32 + c.val) / 12288 % 32 = B.val; omega
  | ⟨2, _⟩ => show (((d.val * 32 + B.val) * 384 + G.val) * 32 + c.val) % 12288 = 32 * G.val + c.val; omega

theorem scale_apply (i : S2x32x384.Idx) : val_main_v35 (F := Ideal) x0 i = Tile.refScale (val_main_v7 (F := Ideal) x0 i) := by
  simp only [val_main_v35_apply, val_main_v34_apply, val_main_v33_apply, val_main_v32_apply, val_main_v31_apply, val_main_v30_apply, val_main_v29_apply,
    val_main_v28_apply, val_main_v27_apply, val_main_v26_apply, val_main_v25_apply, val_main_v24_apply, val_main_v23_apply, val_main_v22_apply,
    val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8_apply,
    val_main_cst_1_apply, val_main_cst_2_apply, val_main_cst_3_apply, val_main_cst_4_apply, val_main_cst_5_apply, val_main_cst_6_apply,
    val_main_cst_7_apply, val_main_cst_8_apply, val_main_cst_9_apply, val_main_cst_10_apply, val_main_cst_11_apply, val_main_cst_12_apply,
    val_main_cst_13_apply, val_main_cst_14_apply, val_main_call0_v0_apply, val_main_call0_v1_apply, val_main_call1_v0_apply, val_main_call1_v1_apply,
    val_main_call2_v0_apply, val_main_call2_v1_apply, val_main_call3_v0_apply]
  rfl

theorem mult_apply (i : S2x32x384.Idx) : val_main_v48 (F := Ideal) x0 i = Tile.refMult (val_main_v7 (F := Ideal) x0 i) := by
  simp only [val_main_v48_apply, val_main_v47_apply, val_main_v46_apply, val_main_v45_apply, val_main_v44_apply, val_main_v43_apply, val_main_v42_apply,
    val_main_v41_apply, val_main_v40_apply, val_main_v39_apply, val_main_v38_apply, val_main_v37_apply, val_main_v36_apply, val_main_v22_apply,
    val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8_apply,
    val_main_cst_1_apply, val_main_cst_2_apply, val_main_cst_3_apply, val_main_cst_4_apply, val_main_cst_5_apply, val_main_cst_6_apply,
    val_main_cst_15_apply, val_main_cst_16_apply, val_main_cst_17_apply, val_main_cst_18_apply, val_main_cst_19_apply, val_main_cst_20_apply,
    val_main_cst_21_apply, val_main_cst_22_apply, val_main_call0_v0_apply, val_main_call0_v1_apply, val_main_call4_v0_apply, val_main_call4_v1_apply,
    val_main_call5_v0_apply, val_main_call5_v1_apply, val_main_call6_v0_apply]
  rfl

theorem scl_apply (d : Fin 2) (B : Fin 32) (G : Fin 384) : val_main_v35 (F := Ideal) x0 (ValueIdx.ix3 d B G) = Tile.scl (xm x0) (32 * d.val + B.val) G.val := by
  rw [scale_apply, amax_apply]; rfl

/-- The seed. -/
theorem seed_apply (i : S_.Idx) : val_main_v1 (F := Ideal) x2 i = x2 (ValueIdx.ix1 (0 : Fin 2)) := by
  unfold val_main_v1
  refine (shapeCast_apply _ _ _ (ValueIdx.ix1 (0 : Fin 1)) ?_).trans ?_
  · exact (Nat.lt_one_iff.mp (lt_of_lt_of_eq (Fin.isLt _) (by decide))).trans
      (Nat.lt_one_iff.mp (lt_of_lt_of_eq (Fin.isLt _) (by decide))).symm
  · rw [val_main_v0_apply]
    congr 1
    funext a
    match a with
    | ⟨0, _⟩ => rfl

theorem hash_apply (d : Fin 2) (B : Fin 32) (r : Fin 64) (c : Fin 12288) : val_main_v85 (F := Ideal) x2 (ValueIdx.ix4 d B r c)
    = Tile.mix1 (BitVec.ofNat 32 (row d B r * 12288 + c.val) ^^^ x2 (ValueIdx.ix1 (0 : Fin 2))) := by
  have hk : val_main_v70 (F := Ideal) x2 (ValueIdx.ix4 d B r c) = BitVec.ofNat 32 (row d B r * 12288 + c.val) ^^^ x2 (ValueIdx.ix1 (0 : Fin 2)) := by
    simp only [val_main_v70_apply, val_main_v69_apply, val_main_v68_apply, val_main_v67_apply, val_main_v66_apply, val_main_v65_apply, val_main_v64_apply,
      val_main_v63_apply, val_main_v62_apply, val_main_v61_apply, val_main_v60_apply, val_main_v59_apply, val_main_v58_apply, val_main_v57_apply,
      val_main_v56_apply, val_main_v55_apply, val_main_v54_apply, val_main_c_apply, val_main_c_23_apply, val_main_c_24_apply, seed_apply]
    show (((BitVec.ofNat 32 d.val * 2048#32 + BitVec.ofNat 32 B.val * 64#32 + BitVec.ofNat 32 r.val) * 12288#32 + BitVec.ofNat 32 c.val) ^^^ _) = _
    congr 1
    rw [← BitVec.ofNat_mul, ← BitVec.ofNat_mul, ← BitVec.ofNat_add, ← BitVec.ofNat_add, ← BitVec.ofNat_mul, ← BitVec.ofNat_add]
    have e : row d B r = 64 * (32 * d.val + B.val) + r.val := rfl
    rw [e, show (d.val * 2048 + B.val * 64 + r.val) * 12288 + c.val = (64 * (32 * d.val + B.val) + r.val) * 12288 + c.val by omega]
  simp only [val_main_v85_apply, val_main_v84_apply, val_main_v83_apply, val_main_v82_apply, val_main_v81_apply, val_main_v80_apply, val_main_v79_apply,
    val_main_v78_apply, val_main_v77_apply, val_main_v76_apply, val_main_v75_apply, val_main_v74_apply, val_main_v73_apply, val_main_v72_apply,
    val_main_v71_apply, val_main_c_25_apply, val_main_c_26_apply, val_main_c_27_apply, val_main_c_28_apply, val_main_c_29_apply, val_main_c_30_apply, hk]
  rfl

theorem bmult_apply (d : Fin 2) (B : Fin 32) (r : Fin 64) (c : Fin 12288) :
    val_main_v52 (F := Ideal) x0 (ValueIdx.ix4 d B r c) = Tile.refMult (Tile.amax (xm x0) (32 * d.val + B.val) (c.val / 32)) := by
  rw [val_main_v52_apply, val_main_v51_apply, val_main_v50_apply, val_main_v49_apply, mult_apply]
  refine congrArg Tile.refMult ((congrArg (val_main_v7 (F := Ideal) x0) ?_).trans (amax_apply x0 d B ⟨c.val / 32, by omega⟩))
  funext a
  apply Fin.ext
  match a with
  | ⟨0, _⟩ => show ((d.val * 32 + B.val) * 12288 + c.val) / 393216 = d.val; omega
  | ⟨1, _⟩ => show ((d.val * 32 + B.val) * 12288 + c.val) / 12288 % 32 = B.val; omega
  | ⟨2, _⟩ => show ((d.val * 32 + B.val) * 12288 + c.val) / 32 % 384 = c.val / 32; omega

theorem bscale_apply (d : Fin 2) (B : Fin 32) (r : Fin 64) (c : Fin 12288) :
    val_main_v103 (F := Ideal) x0 (ValueIdx.ix4 d B r c) = Tile.scl (xm x0) (32 * d.val + B.val) (c.val / 32) := by
  rw [val_main_v103_apply, val_main_v102_apply, val_main_v97_apply, val_main_v96_apply, val_main_v95_apply]
  refine (congrArg (val_main_v35 (F := Ideal) x0) ?_).trans (scl_apply x0 d B ⟨c.val / 32, by omega⟩)
  funext a
  apply Fin.ext
  match a with
  | ⟨0, _⟩ => show ((d.val * 32 + B.val) * 12288 + c.val) / 393216 = d.val; omega
  | ⟨1, _⟩ => show ((d.val * 32 + B.val) * 12288 + c.val) / 12288 % 32 = B.val; omega
  | ⟨2, _⟩ => show ((d.val * 32 + B.val) * 12288 + c.val) / 32 % 384 = c.val / 32; omega

/-- The rounded value. -/
theorem qv_apply (d : Fin 2) (B : Fin 32) (r : Fin 64) (c : Fin 12288) : (val_main_v91 (F := Ideal) x0 x2 (ValueIdx.ix4 d B r c) : EReal)
    = Tile.qv (xm x0) 12288 (x2 (ValueIdx.ix1 (0 : Fin 2))) (row d B r) c.val := by
  simp only [val_main_v91_apply, val_main_call7_v4_apply, val_main_call7_v3_apply, val_main_call7_v2_apply, val_main_call7_v1_apply, val_main_call7_v0_apply,
    val_main_c_33_apply, val_main_c_32_apply, val_main_v90_apply, val_main_v89_apply, val_main_v88_apply, val_main_v87_apply, val_main_v86_apply,
    val_main_cst_31_apply, val_main_v53_apply, x_apply, bmult_apply, hash_apply]
  unfold Tile.qv Tile.noise
  rw [show row d B r / 64 = 32 * d.val + B.val by show (64 * (32 * d.val + B.val) + r.val) / 64 = _; omega]
  exact Tile.clip_bits _

/-- The indices of row `R`: the block row's two parts and the row within the block. -/
theorem row_split (R : ℕ) (h : R < 4096) : row ⟨R / 2048, by omega⟩ ⟨R / 64 % 32, by omega⟩ ⟨R % 64, by omega⟩ = R := by
  show 64 * (32 * (R / 2048) + R / 64 % 32) + R % 64 = R
  omega

theorem codes_apply (R : Fin 4096) (c : Fin 12288) : val_main_v94 (F := Ideal) x0 x2 (ValueIdx.ix2 R c)
    = Tile.code (xm x0) 12288 (x2 (ValueIdx.ix1 (0 : Fin 2))) R.val c.val := by
  rw [val_main_v94_apply, val_main_v93_apply, val_main_v92_apply]
  unfold Tile.code
  refine congrArg (fun q => BitVec.truncate 8 (Ideal.fptosi 32 q)) ?_
  refine (congrArg (val_main_v91 (F := Ideal) x0 x2) ?_).trans ((qv_apply x0 x2 ⟨R.val / 2048, by omega⟩ ⟨R.val / 64 % 32, by omega⟩ ⟨R.val % 64, by omega⟩ c).trans
    (by rw [row_split R.val R.isLt]))
  funext a
  apply Fin.ext
  match a with
  | ⟨0, _⟩ => show (R.val * 12288 + c.val) / 25165824 = R.val / 2048; omega
  | ⟨1, _⟩ => show (R.val * 12288 + c.val) / 786432 % 32 = R.val / 64 % 32; omega
  | ⟨2, _⟩ => show (R.val * 12288 + c.val) / 12288 % 64 = R.val % 64; omega
  | ⟨3, _⟩ => show (R.val * 12288 + c.val) % 12288 = c.val; omega

theorem scales_apply (B : Fin 64) (G : Fin 384) : val_main_v107 (F := Ideal) x0 (ValueIdx.ix2 B G) = Tile.scl (xm x0) B.val G.val := by
  rw [val_main_v107_apply]
  refine (congrArg (val_main_v35 (F := Ideal) x0) ?_).trans ((scl_apply x0 ⟨B.val / 32, by omega⟩ ⟨B.val % 32, by omega⟩ G).trans
    (by rw [show 32 * (B.val / 32) + B.val % 32 = B.val by omega]))
  funext a
  apply Fin.ext
  match a with
  | ⟨0, _⟩ => show (B.val * 384 + G.val) / 12288 = B.val / 32; omega
  | ⟨1, _⟩ => show (B.val * 384 + G.val) / 384 % 32 = B.val % 32; omega
  | ⟨2, _⟩ => show (B.val * 384 + G.val) % 384 = G.val; omega

/-- The dequantised value: the code's value times the scale. -/
theorem deq_apply (R : Fin 4096) (c : Fin 12288) : (val_main_v105 (F := Ideal) x0 x2 (ValueIdx.ix2 R c) : EReal)
    = Tile.dq (xm x0) 12288 (x2 (ValueIdx.ix1 (0 : Fin 2))) R.val c.val := by
  have hi : idx_main_v105 (ValueIdx.ix2 R c)
      = ValueIdx.ix4 (⟨R.val / 2048, by omega⟩ : Fin 2) (⟨R.val / 64 % 32, by omega⟩ : Fin 32) (⟨R.val % 64, by omega⟩ : Fin 64) c := by
    funext a
    apply Fin.ext
    match a with
    | ⟨0, _⟩ => show (R.val * 12288 + c.val) / 25165824 = R.val / 2048; omega
    | ⟨1, _⟩ => show (R.val * 12288 + c.val) / 786432 % 32 = R.val / 64 % 32; omega
    | ⟨2, _⟩ => show (R.val * 12288 + c.val) / 12288 % 64 = R.val % 64; omega
    | ⟨3, _⟩ => show (R.val * 12288 + c.val) % 12288 = c.val; omega
  have hj : idx_main_v101 (ValueIdx.ix4 (⟨R.val / 2048, by omega⟩ : Fin 2) (⟨R.val / 64 % 32, by omega⟩ : Fin 32) (⟨R.val % 64, by omega⟩ : Fin 64) c)
      = ValueIdx.ix2 R c := by
    funext a
    apply Fin.ext
    match a with
    | ⟨0, _⟩ => show (((R.val / 2048 * 32 + R.val / 64 % 32) * 64 + R.val % 64) * 12288 + c.val) / 12288 = R.val; omega
    | ⟨1, _⟩ => show (((R.val / 2048 * 32 + R.val / 64 % 32) * 64 + R.val % 64) * 12288 + c.val) % 12288 = c.val; omega
  rw [val_main_v105_apply, hi, val_main_v104_apply, bscale_apply, val_main_v101_apply, hj, val_main_v100_apply, val_main_v99_apply, val_main_v98_apply, codes_apply,
    show 32 * (R.val / 2048) + R.val / 64 % 32 = R.val / 64 by omega]
  unfold Tile.dq
  exact congrArg (fun q : EReal => q * _) (Tile.sitofp_code _)

theorem dw_apply (x1 : Vec Ideal S3456x4096 .bf16) (c : Fin 12288) (b : Fin 3456) : (val_main_v106 (F := Ideal) x0 x1 x2 (ValueIdx.ix2 c b) : EReal)
    = ∑ r : Fin 4096, Tile.dq (xm x0) 12288 (x2 (ValueIdx.ix1 (0 : Fin 2))) r.val c.val * (x1 (ValueIdx.ix2 b r) : EReal) := by
  rw [val_main_v106_apply]
  refine Finset.sum_congr rfl fun r _ => ?_
  rw [← deq_apply]
  refine congrArg₂ (fun a b : EReal => a * b) (congrArg (val_main_v105 (F := Ideal) x0 x2) ?_) (congrArg x1 ?_)
  · funext a
    match a with
    | ⟨0, _⟩ => rfl
    | ⟨1, _⟩ => rfl
  · funext a
    match a with
    | ⟨0, _⟩ => rfl
    | ⟨1, _⟩ => rfl

end Cert.ReferenceIdeal.Read

end
-- ==== Proof.KTrip.lean ====
/- One trip of the loop of the main call: its pieces are the tile quantiser's results on the four tiles of 512 rows by
   128 columns that it loads. -/
module

public import proofs.«01_k».proof.Proof.Gen.KernelIdeal.Loops
public import proofs.«01_k».proof.Proof.TileValue

@[expose] public section

set_option maxRecDepth 16384

noncomputable section

namespace Cert.KernelIdeal.Gen

open Idealize.ShloMosaic Idealize.ShloMosaic.TcCoe Idealize.SL.Sem
open Cert.KernelIdeal

/-- The lanes' numbers, as the kernel takes them. -/
abbrev lanes : IVec S8x128 32 := iota .tc S8x128 32 [1] iota_S8x128_d1_w32

/-- The number of the four lanes that take the scales of the tile `g` of the grid's column `n`, as the kernel counts it. -/
def slot (n g : BitVec 32) : BitVec 32 :=
  let w := Scalar.select (Scalar.cmpi .eq 8#32 0#32) 1#32 8#32
  let r := Scalar.remsi n w
  Scalar.addi (Scalar.muli (Scalar.select (Scalar.andi (Scalar.xori (Scalar.cmpi .slt r 0#32) (Scalar.cmpi .slt w 0#32)) (Scalar.cmpi .ne r 0#32)) (Scalar.addi r w) r) 4#32) g

theorem slot_eq : ∀ (n : Fin 24) (g : Fin 4), slot (BitVec.ofNat 32 n.val) (BitVec.ofNat 32 g.val) = BitVec.ofNat 32 (4 * (n.val % 8) + g.val) := by
  decide +kernel

section
variable (i : grid0.Coords) (arg3 : Memref sig .tc .vmem S4096x512 .bf16) (h1 : k0_cond1 i = 1#1)
  (X : BufTy.Contents (Elt Ideal) arg3.view.ty) (k : Fin k0_t1_loop.trips)

/-- The rows a trip loads for tile 0. -/
abbrev rows0 : FVec Ideal S512x128 .bf16 :=
  View.readAt (Elt Ideal) arg3.view (Rect.unit (s := S4096x512) (k0_off2 k) S512x128.size (k0_off2_inb i k h1)).toLoadRect X

theorem pay4_eq (v : Vec Ideal S512x128 .bf16) : k0_pay4 (F := Ideal) v = v := by
  unfold k0_pay4; exact shapeCast_self _ _

/-- The rows a trip loads for tile 1. -/
abbrev rows1 : FVec Ideal S512x128 .bf16 :=
  View.readAt (Elt Ideal) arg3.view (Rect.unit (s := S4096x512) (k0_off3 k) S512x128.size (k0_off3_inb i k h1)).toLoadRect X

theorem pay24_eq (v : Vec Ideal S512x128 .bf16) : k0_pay24 (F := Ideal) v = v := by
  unfold k0_pay24; exact shapeCast_self _ _

/-- The rows a trip loads for tile 2. -/
abbrev rows2 : FVec Ideal S512x128 .bf16 :=
  View.readAt (Elt Ideal) arg3.view (Rect.unit (s := S4096x512) (k0_off4 k) S512x128.size (k0_off4_inb i k h1)).toLoadRect X

theorem pay42_eq (v : Vec Ideal S512x128 .bf16) : k0_pay42 (F := Ideal) v = v := by
  unfold k0_pay42; exact shapeCast_self _ _

/-- The rows a trip loads for tile 3. -/
abbrev rows3 : FVec Ideal S512x128 .bf16 :=
  View.readAt (Elt Ideal) arg3.view (Rect.unit (s := S4096x512) (k0_off5 k) S512x128.size (k0_off5_inb i k h1)).toLoadRect X

theorem pay61_eq (v : Vec Ideal S512x128 .bf16) : k0_pay61 (F := Ideal) v = v := by
  unfold k0_pay61; exact shapeCast_self _ _

/-! ## Tile 0 -/

theorem max0_pay (v : FVec Ideal S512x128 .bf16) : k0_pay9 (F := Ideal) (k0_pay5 v) lanes (k0_pay6 v) (k0_pay7 v) k0_pay8
    = Tile.groupMax (Tile.rowMax v) := by
  unfold k0_pay9 k0_pay6 k0_pay7 k0_pay5
  rw [pay4_eq]; rfl

theorem max0 : trip_k0_t1.sl.r_5 (F := Ideal) i arg3 h1 X k = Tile.groupMax (Tile.rowMax (rows0 i arg3 h1 X k)) := max0_pay _

theorem cond0 : trip_k0_t1.sl.r_7 (F := Ideal) i arg3 h1 X k = cmpi .ne (Tile.blockExpo (rows0 i arg3 h1 X k)) (Tile.all 0#32) := by
  unfold Tile.blockExpo
  rw [← max0]; rfl

theorem scale0 : trip_k0_t1.sl.r_8 (F := Ideal) i arg3 h1 X k = Tile.tileScale (rows0 i arg3 h1 X k) := by
  unfold Tile.tileScale Tile.blockExpo
  rw [← max0]; rfl

theorem pow0 : trip_k0_t1.sl.r_9 (F := Ideal) i arg3 h1 X k = Tile.pow2 (subi (Tile.all 7#32) (Tile.shift (Tile.blockExpo (rows0 i arg3 h1 X k)))) := by
  unfold Tile.blockExpo
  rw [← max0]; rfl

theorem load0 : trip_k0_t1.sl.r_1 (F := Ideal) i arg3 h1 X k = rows0 i arg3 h1 X k := pay4_eq _

/-! ## Tile 1 -/

theorem max1_pay (v : FVec Ideal S512x128 .bf16) : k0_pay27 (F := Ideal) lanes (k0_pay25 v) (k0_pay26 v) = Tile.groupMax (Tile.rowMax v) := by
  unfold k0_pay27 k0_pay26 k0_pay25
  rw [pay24_eq]; rfl

theorem max1 : trip_k0_t1.sl.r_18 (F := Ideal) i arg3 h1 X k = Tile.groupMax (Tile.rowMax (rows1 i arg3 h1 X k)) := max1_pay _

theorem shift1 : trip_k0_t1.sl.r_20 (F := Ideal) i arg3 h1 X k = Tile.shift (Tile.blockExpo (rows1 i arg3 h1 X k)) := by
  unfold Tile.blockExpo
  rw [← max1]; rfl

theorem cond1 : trip_k0_t1.sl.r_21 (F := Ideal) i arg3 h1 X k = cmpi .ne (Tile.blockExpo (rows1 i arg3 h1 X k)) (Tile.all 0#32) := by
  unfold Tile.blockExpo
  rw [← max1]; rfl

theorem scale1 : trip_k0_t1.sl.r_23 (F := Ideal) i arg3 h1 X k = Tile.tileScale (rows1 i arg3 h1 X k) := by
  unfold Tile.tileScale Tile.blockExpo
  rw [← max1]; rfl

theorem load1 : trip_k0_t1.sl.r_15 (F := Ideal) i arg3 h1 X k = rows1 i arg3 h1 X k := pay24_eq _

theorem scaled1 : trip_k0_t1.sl.r_24 (F := Ideal) i arg3 h1 X k
    = Tile.scaled (rows1 i arg3 h1 X k) (Tile.mult (Tile.blockExpo (rows1 i arg3 h1 X k))) := by
  unfold trip_k0_t1.sl.r_24
  rw [load1, shift1, cond1]; rfl

/-! ## Tile 2 -/

theorem max2_pay (v : FVec Ideal S512x128 .bf16) : k0_pay46 (F := Ideal) lanes (k0_pay43 v) (k0_pay44 v) (k0_pay45 v) = Tile.groupMax (Tile.rowMax v) := by
  unfold k0_pay46 k0_pay44 k0_pay45 k0_pay43
  rw [pay42_eq]; rfl

theorem max2 : trip_k0_t1.sl.r_31 (F := Ideal) i arg3 h1 X k = Tile.groupMax (Tile.rowMax (rows2 i arg3 h1 X k)) := max2_pay _

theorem expo2 : trip_k0_t1.sl.r_35 (F := Ideal) i arg3 h1 X k = Tile.blockExpo (rows2 i arg3 h1 X k) := by
  unfold Tile.blockExpo
  rw [← max2]; rfl

theorem shift2 : trip_k0_t1.sl.r_36 (F := Ideal) i arg3 h1 X k = Tile.shift (Tile.blockExpo (rows2 i arg3 h1 X k)) := by
  rw [← expo2]; rfl

theorem scale2 : trip_k0_t1.sl.r_37 (F := Ideal) i arg3 h1 X k = Tile.tileScale (rows2 i arg3 h1 X k) := by
  unfold Tile.tileScale trip_k0_t1.sl.r_37
  rw [expo2, shift2]; rfl

theorem load2 : trip_k0_t1.sl.r_27 (F := Ideal) i arg3 h1 X k = rows2 i arg3 h1 X k := pay42_eq _

theorem scaled2 : trip_k0_t1.sl.r_38 (F := Ideal) i arg3 h1 X k
    = Tile.scaled (rows2 i arg3 h1 X k) (Tile.mult (Tile.blockExpo (rows2 i arg3 h1 X k))) := by
  unfold trip_k0_t1.sl.r_38
  rw [load2, expo2, shift2]; rfl

/-! ## Tile 3 -/

theorem max3_pay (v : FVec Ideal S512x128 .bf16) : k0_pay67 (F := Ideal) (k0_pay62 v) lanes (k0_pay63 v) (k0_pay64 v) k0_pay65 k0_pay66
    = Tile.groupMax (Tile.rowMax v) := by
  unfold k0_pay67 k0_pay63 k0_pay64 k0_pay62
  rw [pay61_eq]; rfl

theorem max3 : trip_k0_t1.sl.r_45 (F := Ideal) i arg3 h1 X k = Tile.groupMax (Tile.rowMax (rows3 i arg3 h1 X k)) := max3_pay _

theorem scale3 : trip_k0_t1.sl.r_48 (F := Ideal) i arg3 h1 X k = Tile.tileScale (rows3 i arg3 h1 X k) := by
  unfold Tile.tileScale Tile.blockExpo
  rw [← max3]; rfl

theorem mult3 : trip_k0_t1.sl.r_49 (F := Ideal) i arg3 h1 X k = Tile.mult (Tile.blockExpo (rows3 i arg3 h1 X k)) := by
  unfold Tile.blockExpo
  rw [← max3]; rfl

theorem load3 : trip_k0_t1.sl.r_41 (F := Ideal) i arg3 h1 X k = rows3 i arg3 h1 X k := pay61_eq _

/-! ## The pieces -/

variable (arg0 v0 : BitVec 32)

/-- The first row of a trip and the first column of a tile, as the kernel counts them. -/
abbrev tok : BitVec 32 := Scalar.muli (Scf.iv 0#32 1#32 k) 512#32
abbrev col (n g : BitVec 32) : BitVec 32 := Scalar.addi (Scalar.muli n 512#32) g

theorem codes0 : trip_k0_t1.sl.r_10 (F := Ideal) i arg3 arg0 v0 h1 X k = Tile.tileCodes (rows0 i arg3 h1 X k) 12288#32 (tok k) (col arg0 0#32) v0 := by
  unfold trip_k0_t1.sl.r_10
  rw [load0, cond0, pow0]; rfl

theorem codes1 : k0_pay38 (F := Ideal) (trip_k0_t1.sl.r_24 i arg3 h1 X k) (trip_k0_t1.sl.r_25 (F := Ideal) arg0 v0 k) k0_pay36
    = Tile.tileCodes (rows1 i arg3 h1 X k) 12288#32 (tok k) (col arg0 128#32) v0 := by
  rw [scaled1]; rfl

theorem codes2 : k0_pay57 (F := Ideal) (trip_k0_t1.sl.r_38 i arg3 h1 X k) (trip_k0_t1.sl.r_39 (F := Ideal) arg0 v0 k) 16#32
    = Tile.tileCodes (rows2 i arg3 h1 X k) 12288#32 (tok k) (col arg0 256#32) v0 := by
  rw [scaled2]; rfl

theorem codes3 : trip_k0_t1.sl.r_51 (F := Ideal) i arg3 arg0 v0 h1 X k = Tile.tileCodes (rows3 i arg3 h1 X k) 12288#32 (tok k) (col arg0 384#32) v0 := by
  unfold trip_k0_t1.sl.r_51 trip_k0_t1.sl.r_50
  rw [load3, mult3]; rfl

theorem deq0 : k0_pay22 (F := Ideal) (trip_k0_t1.sl.r_11 i arg3 arg0 v0 h1 X k) (trip_k0_t1.sl.r_12 i arg3 h1 X k)
    = Tile.tileDeq (rows0 i arg3 h1 X k) 12288#32 (tok k) (col arg0 0#32) v0 := by
  unfold k0_pay22
  refine (shapeCast_self _ _).trans ?_
  unfold trip_k0_t1.sl.r_11 trip_k0_t1.sl.r_12
  rw [load0, cond0, pow0, scale0]; rfl

theorem deq1 : k0_pay39 (F := Ideal) (trip_k0_t1.sl.r_23 i arg3 h1 X k) (trip_k0_t1.sl.r_24 i arg3 h1 X k) (trip_k0_t1.sl.r_25 (F := Ideal) arg0 v0 k) k0_pay36
    = Tile.tileDeq (rows1 i arg3 h1 X k) 12288#32 (tok k) (col arg0 128#32) v0 := by
  rw [scaled1, scale1]
  unfold k0_pay39
  refine (shapeCast_self _ _).trans ?_
  rfl

theorem deq2 : k0_pay58 (F := Ideal) (trip_k0_t1.sl.r_37 i arg3 h1 X k) (trip_k0_t1.sl.r_38 i arg3 h1 X k) (trip_k0_t1.sl.r_39 (F := Ideal) arg0 v0 k) 16#32
    = Tile.tileDeq (rows2 i arg3 h1 X k) 12288#32 (tok k) (col arg0 256#32) v0 := by
  rw [scaled2, scale2]
  unfold k0_pay58
  refine (shapeCast_self _ _).trans ?_
  rfl

theorem deq3 : k0_pay82 (F := Ideal) (trip_k0_t1.sl.r_52 i arg3 arg0 v0 h1 X k)
    = Tile.tileDeq (rows3 i arg3 h1 X k) 12288#32 (tok k) (col arg0 384#32) v0 := by
  unfold k0_pay82
  refine (shapeCast_self _ _).trans ?_
  unfold trip_k0_t1.sl.r_52 trip_k0_t1.sl.r_50
  rw [load3, mult3, scale3]; rfl

variable (arg6 : Memref sig .tc .vmem S64x384 .f32) (f : BufTy.Contents (Elt Ideal) arg6.view.ty)

/-- One tile's scales put into its lanes. -/
abbrev put (g : BitVec 32) (v : FVec Ideal S512x128 .bf16) (old : FVec Ideal S8x128 .f32) : FVec Ideal S8x128 .f32 :=
  select (Tile.mine (slot arg0 g)) (Tile.compact (Tile.tileScale v)) old

/-- A trip's scale entries, from the contents `f` of the scales. -/
def scalesPiece : FVec Ideal S8x128 .f32 :=
  put arg0 3#32 (rows3 i arg3 h1 X k) (put arg0 2#32 (rows2 i arg3 h1 X k) (put arg0 1#32 (rows1 i arg3 h1 X k) (put arg0 0#32 (rows0 i arg3 h1 X k)
    (View.readAt (Elt Ideal) arg6.view (Rect.unit (s := S64x384) (k0_off1 i k) S8x128.size (k0_off1_inb i k h1)).toLoadRect f))))

theorem scales0 : trip_k0_t1.sl.r_13 (F := Ideal) i arg3 arg6 arg0 lanes h1 X k f = put arg0 0#32 (rows0 i arg3 h1 X k)
    (View.readAt (Elt Ideal) arg6.view (Rect.unit (s := S64x384) (k0_off1 i k) S8x128.size (k0_off1_inb i k h1)).toLoadRect f) := by
  unfold trip_k0_t1.sl.r_13 trip_k0_t1.sl.r
  rw [scale0, show ∀ x, k0_pay3 (F := Ideal) x = x from fun x => shapeCast_self _ _]; rfl

theorem scales1 (old : FVec Ideal S8x128 .f32) (v : FVec Ideal S512x128 .bf16) :
    k0_pay41 (F := Ideal) old (Tile.tileScale v) (k0_pay40 arg0 lanes) trip_k0_t1.sl.v51 3#32 = put arg0 1#32 v old := rfl

theorem scales2 (old : FVec Ideal S8x128 .f32) (v : FVec Ideal S512x128 .bf16) :
    k0_pay60 (F := Ideal) arg0 old (Tile.tileScale v) (k0_pay59 lanes) 8#32 = put arg0 2#32 v old := rfl

theorem scales3 (old : FVec Ideal S8x128 .f32) (v : FVec Ideal S512x128 .bf16) :
    k0_pay1 (F := Ideal) old (Tile.tileScale v) (k0_pay83 arg0 lanes) trip_k0_t1.sl.v51 k0_pay84 = put arg0 3#32 v old := rfl

theorem scales_eq : k0_pay1 (F := Ideal) (trip_k0_t1.sl.r_40 i arg3 arg6 arg0 lanes h1 X k f) (trip_k0_t1.sl.r_48 i arg3 h1 X k) (k0_pay83 arg0 lanes)
      trip_k0_t1.sl.v51 k0_pay84 = scalesPiece i arg3 h1 X k arg0 arg6 f := by
  unfold trip_k0_t1.sl.r_40 trip_k0_t1.sl.r_26
  rw [scales0, scale1, scale2, scale3, scales1, scales2, scales3]; rfl

end

end Cert.KernelIdeal.Gen

end
-- ==== Proof.KLoop.lean ====
/- The loop of the main call, trip after trip: the rows of the codes and of the dequantised tile and the entries of the
   scales that the trips before `n` wrote, and the entries of the scales that they left. -/
module

public import proofs.«01_k».proof.Proof.KTrip
public import Idealize.ShloMosaic.Lib.WritesUnit

@[expose] public section

set_option maxRecDepth 16384

noncomputable section

namespace Cert.KernelIdeal.Gen

open Idealize.ShloMosaic Idealize.ShloMosaic.TcCoe Idealize.SL.Sem
open Cert.KernelIdeal

theorem trips_eq : k0_t1_loop.trips = 8 := by decide +kernel

theorem tok_eq : ∀ k : Fin k0_t1_loop.trips, tok k = BitVec.ofNat 32 (512 * k.val) := by decide +kernel

/-- The trip's rows of the scales, and the 128 columns among which the grid's column finds its own. -/
theorem k0_off1_eq : ∀ (i : grid0.Coords) (k : Fin k0_t1_loop.trips), k0_off1 i k = ![8 * k.val, 128 * ((i 0).val / 8)] := by decide +kernel

/-- The grid's column, as the kernel takes it. -/
abbrev num (i : grid0.Coords) : BitVec 32 := BitVec.ofNat 32 (i 0).val

theorem col_eq0 (i : grid0.Coords) : col (num i) 0#32 = BitVec.ofNat 32 (128 * (4 * (i 0).val + 0)) := by
  show BitVec.ofNat 32 (i 0).val * BitVec.ofNat 32 512 + BitVec.ofNat 32 0 = _
  rw [← BitVec.ofNat_mul, ← BitVec.ofNat_add]
  congr 1
  omega

theorem col_eq1 (i : grid0.Coords) : col (num i) 128#32 = BitVec.ofNat 32 (128 * (4 * (i 0).val + 1)) := by
  show BitVec.ofNat 32 (i 0).val * BitVec.ofNat 32 512 + BitVec.ofNat 32 128 = _
  rw [← BitVec.ofNat_mul, ← BitVec.ofNat_add]
  congr 1
  omega

theorem col_eq2 (i : grid0.Coords) : col (num i) 256#32 = BitVec.ofNat 32 (128 * (4 * (i 0).val + 2)) := by
  show BitVec.ofNat 32 (i 0).val * BitVec.ofNat 32 512 + BitVec.ofNat 32 256 = _
  rw [← BitVec.ofNat_mul, ← BitVec.ofNat_add]
  congr 1
  omega

theorem col_eq3 (i : grid0.Coords) : col (num i) 384#32 = BitVec.ofNat 32 (128 * (4 * (i 0).val + 3)) := by
  show BitVec.ofNat 32 (i 0).val * BitVec.ofNat 32 512 + BitVec.ofNat 32 384 = _
  rw [← BitVec.ofNat_mul, ← BitVec.ofNat_add]
  congr 1
  omega

/-! ## Four tiles side by side -/

section
variable (i : grid0.Coords) (h1 : k0_cond1 i = 1#1) {e : EltTy} (M : Memref sig .tc .vmem S4096x512 e) (G : BufTy.Contents (Elt Ideal) M.view.ty)
  (k : Fin k0_t1_loop.trips) (p3 p2 p1 p0 : S512x128.Idx → Elt Ideal e) (L : List (View.Piece (Elt Ideal) S4096x512 e))

/-- Rows before the trip's read what was there. -/
theorem four_miss (r : Fin 4096) (l : Fin 512) (hr : r.val < 512 * k.val) :
    M.view.read (Elt Ideal) (M.view.writes (Elt Ideal) G (
      ⟨Rect.unit (s := S4096x512) (k0_off5 k) S512x128.size (k0_off5_inb i k h1), p3⟩ ::
      ⟨Rect.unit (s := S4096x512) (k0_off4 k) S512x128.size (k0_off4_inb i k h1), p2⟩ ::
      ⟨Rect.unit (s := S4096x512) (k0_off3 k) S512x128.size (k0_off3_inb i k h1), p1⟩ ::
      ⟨Rect.unit (s := S4096x512) (k0_off2 k) S512x128.size (k0_off2_inb i k h1), p0⟩ :: L)) (ValueIdx.ix2 r l)
      = M.view.read (Elt Ideal) (M.view.writes (Elt Ideal) G L) (ValueIdx.ix2 r l) := by
  rw [View.read_writes_cons_unit_of_not_mem _ _ _ _ _ _ (k0_off5_eq k) (0 : Fin 2) (.inl hr),
    View.read_writes_cons_unit_of_not_mem _ _ _ _ _ _ (k0_off4_eq k) (0 : Fin 2) (.inl hr),
    View.read_writes_cons_unit_of_not_mem _ _ _ _ _ _ (k0_off3_eq k) (0 : Fin 2) (.inl hr),
    View.read_writes_cons_unit_of_not_mem _ _ _ _ _ _ (k0_off2_eq k) (0 : Fin 2) (.inl hr)]

/-- The trip's rows read the tile of their column. -/
theorem four_hit (W : ℕ → ℕ → Elt Ideal e)
    (w0 : ∀ (a : Fin 512) (l : Fin 128), p0 (ValueIdx.ix2 a l) = W (512 * k.val + a.val) (128 * 0 + l.val))
    (w1 : ∀ (a : Fin 512) (l : Fin 128), p1 (ValueIdx.ix2 a l) = W (512 * k.val + a.val) (128 * 1 + l.val))
    (w2 : ∀ (a : Fin 512) (l : Fin 128), p2 (ValueIdx.ix2 a l) = W (512 * k.val + a.val) (128 * 2 + l.val))
    (w3 : ∀ (a : Fin 512) (l : Fin 128), p3 (ValueIdx.ix2 a l) = W (512 * k.val + a.val) (128 * 3 + l.val))
    (r : Fin 4096) (l : Fin 512) (h : 512 * k.val ≤ r.val) (h' : r.val < 512 * k.val + 512) :
    M.view.read (Elt Ideal) (M.view.writes (Elt Ideal) G (
      ⟨Rect.unit (s := S4096x512) (k0_off5 k) S512x128.size (k0_off5_inb i k h1), p3⟩ ::
      ⟨Rect.unit (s := S4096x512) (k0_off4 k) S512x128.size (k0_off4_inb i k h1), p2⟩ ::
      ⟨Rect.unit (s := S4096x512) (k0_off3 k) S512x128.size (k0_off3_inb i k h1), p1⟩ ::
      ⟨Rect.unit (s := S4096x512) (k0_off2 k) S512x128.size (k0_off2_inb i k h1), p0⟩ :: L)) (ValueIdx.ix2 r l)
      = W r.val l.val := by
  by_cases c3 : 384 ≤ l.val
  · refine (View.read_writes_cons_unit_of_mem (s := S4096x512) _ _ (size := S512x128.size) _ _ _ (ValueIdx.ix2 r l)
      (ValueIdx.ix2 (⟨r.val - 512 * k.val, by omega⟩ : Fin 512) (⟨l.val - 384, by omega⟩ : Fin 128)) (k0_off5_eq k)
      (Fin.forall_fin_two.mpr ⟨by show r.val = 512 * k.val + (r.val - 512 * k.val); omega, by show l.val = 384 + (l.val - 384); omega⟩)).trans ?_
    refine (w3 _ _).trans ?_
    congr 1
    · show 512 * k.val + (r.val - 512 * k.val) = r.val; omega
    · show 128 * 3 + (l.val - 384) = l.val; omega
  refine (View.read_writes_cons_unit_of_not_mem _ _ _ _ _ _ (k0_off5_eq k) (1 : Fin 2) (.inl (by show l.val < 384; omega))).trans ?_
  by_cases c2 : 256 ≤ l.val
  · refine (View.read_writes_cons_unit_of_mem (s := S4096x512) _ _ (size := S512x128.size) _ _ _ (ValueIdx.ix2 r l)
      (ValueIdx.ix2 (⟨r.val - 512 * k.val, by omega⟩ : Fin 512) (⟨l.val - 256, by omega⟩ : Fin 128)) (k0_off4_eq k)
      (Fin.forall_fin_two.mpr ⟨by show r.val = 512 * k.val + (r.val - 512 * k.val); omega, by show l.val = 256 + (l.val - 256); omega⟩)).trans ?_
    refine (w2 _ _).trans ?_
    congr 1
    · show 512 * k.val + (r.val - 512 * k.val) = r.val; omega
    · show 128 * 2 + (l.val - 256) = l.val; omega
  refine (View.read_writes_cons_unit_of_not_mem _ _ _ _ _ _ (k0_off4_eq k) (1 : Fin 2) (.inl (by show l.val < 256; omega))).trans ?_
  by_cases c1 : 128 ≤ l.val
  · refine (View.read_writes_cons_unit_of_mem (s := S4096x512) _ _ (size := S512x128.size) _ _ _ (ValueIdx.ix2 r l)
      (ValueIdx.ix2 (⟨r.val - 512 * k.val, by omega⟩ : Fin 512) (⟨l.val - 128, by omega⟩ : Fin 128)) (k0_off3_eq k)
      (Fin.forall_fin_two.mpr ⟨by show r.val = 512 * k.val + (r.val - 512 * k.val); omega, by show l.val = 128 + (l.val - 128); omega⟩)).trans ?_
    refine (w1 _ _).trans ?_
    congr 1
    · show 512 * k.val + (r.val - 512 * k.val) = r.val; omega
    · show 128 * 1 + (l.val - 128) = l.val; omega
  refine (View.read_writes_cons_unit_of_not_mem _ _ _ _ _ _ (k0_off3_eq k) (1 : Fin 2) (.inl (by show l.val < 128; omega))).trans ?_
  by_cases c0 : 0 ≤ l.val
  · refine (View.read_writes_cons_unit_of_mem (s := S4096x512) _ _ (size := S512x128.size) _ _ _ (ValueIdx.ix2 r l)
      (ValueIdx.ix2 (⟨r.val - 512 * k.val, by omega⟩ : Fin 512) (⟨l.val - 0, by omega⟩ : Fin 128)) (k0_off2_eq k)
      (Fin.forall_fin_two.mpr ⟨by show r.val = 512 * k.val + (r.val - 512 * k.val); omega, by show l.val = 0 + (l.val - 0); omega⟩)).trans ?_
    refine (w0 _ _).trans ?_
    congr 1
    · show 512 * k.val + (r.val - 512 * k.val) = r.val; omega
    · show 128 * 0 + (l.val - 0) = l.val; omega
  omega

end

section
variable (𝒱 : Variants) (c : Dev nD) (bd : Option 𝒱.V) (i : grid0.Coords)
  (arg2 : Memref sig .tc .smem S2 .i32) (harg2 : arg2.IsWhole) (arg3 : Memref sig .tc .vmem S4096x512 .bf16) (harg3 : arg3.IsWhole)
  (arg4 : Memref sig .tc .vmem S3456x4096 .bf16) (harg4 : arg4.IsWhole) (arg5 : Memref sig .tc .vmem S4096x512 .i8) (harg5 : arg5.IsWhole)
  (arg6 : Memref sig .tc .vmem S64x384 .f32) (harg6 : arg6.IsWhole) (arg7 : Memref sig .tc .vmem S512x384 .f32) (harg7 : arg7.IsWhole)
  (arg8 : Memref sig .tc .vmem S4096x512 .bf16) (harg8 : arg8.IsWhole) (v0 : BitVec 32) (h1 : k0_cond1 i = 1#1)
  (X : BufTy.Contents (Elt Ideal) arg3.view.ty)

/-- The pieces of a trip. -/
theorem tripL_eq (k : Fin k0_t1_loop.trips) (f5 : BufTy.Contents (Elt Ideal) arg5.view.ty) (f6 : BufTy.Contents (Elt Ideal) arg6.view.ty)
    (f8 : BufTy.Contents (Elt Ideal) arg8.view.ty) :
    tripL_k0_t1 (F := Ideal) 𝒱 c bd i arg2 harg2 arg3 harg3 arg4 harg4 arg5 harg5 arg6 harg6 arg7 harg7 arg8 harg8 (num i) v0 lanes h1 X k f5 f6 f8
      = ([⟨Rect.unit (s := S4096x512) (k0_off5 k) S512x128.size (k0_off5_inb i k h1), Tile.tileCodes (rows3 i arg3 h1 X k) 12288#32 (tok k) (col (num i) 384#32) v0⟩,
            ⟨Rect.unit (s := S4096x512) (k0_off4 k) S512x128.size (k0_off4_inb i k h1), Tile.tileCodes (rows2 i arg3 h1 X k) 12288#32 (tok k) (col (num i) 256#32) v0⟩,
            ⟨Rect.unit (s := S4096x512) (k0_off3 k) S512x128.size (k0_off3_inb i k h1), Tile.tileCodes (rows1 i arg3 h1 X k) 12288#32 (tok k) (col (num i) 128#32) v0⟩,
            ⟨Rect.unit (s := S4096x512) (k0_off2 k) S512x128.size (k0_off2_inb i k h1), Tile.tileCodes (rows0 i arg3 h1 X k) 12288#32 (tok k) (col (num i) 0#32) v0⟩],
         [⟨Rect.unit (s := S64x384) (k0_off1 i k) S8x128.size (k0_off1_inb i k h1), scalesPiece i arg3 h1 X k (num i) arg6 f6⟩],
         [⟨Rect.unit (s := S4096x512) (k0_off5 k) S512x128.size (k0_off5_inb i k h1), Tile.tileDeq (rows3 i arg3 h1 X k) 12288#32 (tok k) (col (num i) 384#32) v0⟩,
            ⟨Rect.unit (s := S4096x512) (k0_off4 k) S512x128.size (k0_off4_inb i k h1), Tile.tileDeq (rows2 i arg3 h1 X k) 12288#32 (tok k) (col (num i) 256#32) v0⟩,
            ⟨Rect.unit (s := S4096x512) (k0_off3 k) S512x128.size (k0_off3_inb i k h1), Tile.tileDeq (rows1 i arg3 h1 X k) 12288#32 (tok k) (col (num i) 128#32) v0⟩,
            ⟨Rect.unit (s := S4096x512) (k0_off2 k) S512x128.size (k0_off2_inb i k h1), Tile.tileDeq (rows0 i arg3 h1 X k) 12288#32 (tok k) (col (num i) 0#32) v0⟩]) := by
  unfold tripL_k0_t1 trip_k0_t1
  dsimp only
  rw [codes0, codes1, codes2, codes3, deq0, deq1, deq2, deq3, scales_eq]

variable {XF : ℕ → ℕ → EReal}
  (hX : ∀ (r : Fin 4096) (l : Fin 512), arg3.view.read (Elt Ideal) X (ValueIdx.ix2 r l) = XF r.val (512 * (i 0).val + l.val))

/-! ### The rows of a trip are tiles of the matrix -/

include hX in
theorem tile0 (k : Fin k0_t1_loop.trips) : Tile.IsTile XF k.val (4 * (i 0).val + 0) (rows0 i arg3 h1 X k) := by
  intro r l
  have hk : k.val < 8 := Nat.lt_of_lt_of_le k.isLt k0_t1_abs.2.1
  refine Eq.trans ?_ ((hX ⟨512 * k.val + r.val, by omega⟩ ⟨128 * 0 + l.val, by omega⟩).trans ?_)
  · show arg3.view.read (Elt Ideal) X _ = _
    congr 1
    funext d
    apply Fin.ext
    show k0_off2 k d + 1 * (ValueIdx.ix2 r l d).val = _
    rw [k0_off2_eq]
    match d with
    | ⟨0, _⟩ => show 512 * k.val + 1 * r.val = 512 * k.val + r.val; omega
    | ⟨1, _⟩ => show 0 + 1 * l.val = 128 * 0 + l.val; omega
  · congr 1
    show 512 * (i 0).val + (128 * 0 + l.val) = 128 * (4 * (i 0).val + 0) + l.val
    omega

include hX in
theorem tile1 (k : Fin k0_t1_loop.trips) : Tile.IsTile XF k.val (4 * (i 0).val + 1) (rows1 i arg3 h1 X k) := by
  intro r l
  have hk : k.val < 8 := Nat.lt_of_lt_of_le k.isLt k0_t1_abs.2.1
  refine Eq.trans ?_ ((hX ⟨512 * k.val + r.val, by omega⟩ ⟨128 * 1 + l.val, by omega⟩).trans ?_)
  · show arg3.view.read (Elt Ideal) X _ = _
    congr 1
    funext d
    apply Fin.ext
    show k0_off3 k d + 1 * (ValueIdx.ix2 r l d).val = _
    rw [k0_off3_eq]
    match d with
    | ⟨0, _⟩ => show 512 * k.val + 1 * r.val = 512 * k.val + r.val; omega
    | ⟨1, _⟩ => show 128 + 1 * l.val = 128 * 1 + l.val; omega
  · congr 1
    show 512 * (i 0).val + (128 * 1 + l.val) = 128 * (4 * (i 0).val + 1) + l.val
    omega

include hX in
theorem tile2 (k : Fin k0_t1_loop.trips) : Tile.IsTile XF k.val (4 * (i 0).val + 2) (rows2 i arg3 h1 X k) := by
  intro r l
  have hk : k.val < 8 := Nat.lt_of_lt_of_le k.isLt k0_t1_abs.2.1
  refine Eq.trans ?_ ((hX ⟨512 * k.val + r.val, by omega⟩ ⟨128 * 2 + l.val, by omega⟩).trans ?_)
  · show arg3.view.read (Elt Ideal) X _ = _
    congr 1
    funext d
    apply Fin.ext
    show k0_off4 k d + 1 * (ValueIdx.ix2 r l d).val = _
    rw [k0_off4_eq]
    match d with
    | ⟨0, _⟩ => show 512 * k.val + 1 * r.val = 512 * k.val + r.val; omega
    | ⟨1, _⟩ => show 256 + 1 * l.val = 128 * 2 + l.val; omega
  · congr 1
    show 512 * (i 0).val + (128 * 2 + l.val) = 128 * (4 * (i 0).val + 2) + l.val
    omega

include hX in
theorem tile3 (k : Fin k0_t1_loop.trips) : Tile.IsTile XF k.val (4 * (i 0).val + 3) (rows3 i arg3 h1 X k) := by
  intro r l
  have hk : k.val < 8 := Nat.lt_of_lt_of_le k.isLt k0_t1_abs.2.1
  refine Eq.trans ?_ ((hX ⟨512 * k.val + r.val, by omega⟩ ⟨128 * 3 + l.val, by omega⟩).trans ?_)
  · show arg3.view.read (Elt Ideal) X _ = _
    congr 1
    funext d
    apply Fin.ext
    show k0_off5 k d + 1 * (ValueIdx.ix2 r l d).val = _
    rw [k0_off5_eq]
    match d with
    | ⟨0, _⟩ => show 512 * k.val + 1 * r.val = 512 * k.val + r.val; omega
    | ⟨1, _⟩ => show 384 + 1 * l.val = 128 * 3 + l.val; omega
  · congr 1
    show 512 * (i 0).val + (128 * 3 + l.val) = 128 * (4 * (i 0).val + 3) + l.val
    omega

variable (G5 : BufTy.Contents (Elt Ideal) arg5.view.ty) (G6 : BufTy.Contents (Elt Ideal) arg6.view.ty) (G8 : BufTy.Contents (Elt Ideal) arg8.view.ty)

/-- The pieces of the trips before `n`. -/
abbrev done (n : ℕ) :=
  pb_k0_t1 (F := Ideal) 𝒱 c bd i arg2 harg2 arg3 harg3 arg4 harg4 arg5 harg5 arg6 harg6 arg7 harg7 arg8 harg8 (num i) v0 lanes h1 X G5 G6 G8 n

theorem done_succ (k : Fin k0_t1_loop.trips) :
    done 𝒱 c bd i arg2 harg2 arg3 harg3 arg4 harg4 arg5 harg5 arg6 harg6 arg7 harg7 arg8 harg8 v0 h1 X G5 G6 G8 (k.val + 1)
      = (⟨Rect.unit (s := S4096x512) (k0_off5 k) S512x128.size (k0_off5_inb i k h1), Tile.tileCodes (rows3 i arg3 h1 X k) 12288#32 (tok k) (col (num i) 384#32) v0⟩ ::
            ⟨Rect.unit (s := S4096x512) (k0_off4 k) S512x128.size (k0_off4_inb i k h1), Tile.tileCodes (rows2 i arg3 h1 X k) 12288#32 (tok k) (col (num i) 256#32) v0⟩ ::
            ⟨Rect.unit (s := S4096x512) (k0_off3 k) S512x128.size (k0_off3_inb i k h1), Tile.tileCodes (rows1 i arg3 h1 X k) 12288#32 (tok k) (col (num i) 128#32) v0⟩ ::
            ⟨Rect.unit (s := S4096x512) (k0_off2 k) S512x128.size (k0_off2_inb i k h1), Tile.tileCodes (rows0 i arg3 h1 X k) 12288#32 (tok k) (col (num i) 0#32) v0⟩ ::
            (done 𝒱 c bd i arg2 harg2 arg3 harg3 arg4 harg4 arg5 harg5 arg6 harg6 arg7 harg7 arg8 harg8 v0 h1 X G5 G6 G8 k.val).1,
         ⟨Rect.unit (s := S64x384) (k0_off1 i k) S8x128.size (k0_off1_inb i k h1), scalesPiece i arg3 h1 X k (num i) arg6
            (arg6.view.writes (Elt Ideal) G6 (done 𝒱 c bd i arg2 harg2 arg3 harg3 arg4 harg4 arg5 harg5 arg6 harg6 arg7 harg7 arg8 harg8 v0 h1 X G5 G6 G8 k.val).2.1)⟩
            :: (done 𝒱 c bd i arg2 harg2 arg3 harg3 arg4 harg4 arg5 harg5 arg6 harg6 arg7 harg7 arg8 harg8 v0 h1 X G5 G6 G8 k.val).2.1,
         ⟨Rect.unit (s := S4096x512) (k0_off5 k) S512x128.size (k0_off5_inb i k h1), Tile.tileDeq (rows3 i arg3 h1 X k) 12288#32 (tok k) (col (num i) 384#32) v0⟩ ::
            ⟨Rect.unit (s := S4096x512) (k0_off4 k) S512x128.size (k0_off4_inb i k h1), Tile.tileDeq (rows2 i arg3 h1 X k) 12288#32 (tok k) (col (num i) 256#32) v0⟩ ::
            ⟨Rect.unit (s := S4096x512) (k0_off3 k) S512x128.size (k0_off3_inb i k h1), Tile.tileDeq (rows1 i arg3 h1 X k) 12288#32 (tok k) (col (num i) 128#32) v0⟩ ::
            ⟨Rect.unit (s := S4096x512) (k0_off2 k) S512x128.size (k0_off2_inb i k h1), Tile.tileDeq (rows0 i arg3 h1 X k) 12288#32 (tok k) (col (num i) 0#32) v0⟩ ::
            (done 𝒱 c bd i arg2 harg2 arg3 harg3 arg4 harg4 arg5 harg5 arg6 harg6 arg7 harg7 arg8 harg8 v0 h1 X G5 G6 G8 k.val).2.2) := by
  unfold done
  rw [pb_k0_t1_succ, tripL_eq]
  rfl

include hX in
/-- The codes after `n` trips. -/
theorem codes_done (n : ℕ) (hn : n ≤ 8) (r : Fin 4096) (l : Fin 512) (hr : r.val < 512 * n) :
    arg5.view.read (Elt Ideal) (arg5.view.writes (Elt Ideal) G5 (done 𝒱 c bd i arg2 harg2 arg3 harg3 arg4 harg4 arg5 harg5 arg6 harg6 arg7 harg7 arg8 harg8 v0 h1 X G5 G6 G8 n).1)
      (ValueIdx.ix2 r l) = Tile.code XF 12288 v0 r.val (512 * (i 0).val + l.val) := by
  induction n with
  | zero => omega
  | succ n ih =>
    have hk : n < k0_t1_loop.trips := by rw [trips_eq]; omega
    rw [done_succ 𝒱 c bd i arg2 harg2 arg3 harg3 arg4 harg4 arg5 harg5 arg6 harg6 arg7 harg7 arg8 harg8 v0 h1 X G5 G6 G8 ⟨n, hk⟩]
    dsimp only
    by_cases h : r.val < 512 * n
    · exact (four_miss i h1 arg5 G5 ⟨n, hk⟩ _ _ _ _ _ r l h).trans (ih (by omega) h)
    · refine four_hit i h1 arg5 G5 ⟨n, hk⟩ _ _ _ _ _ (fun a b => Tile.code XF 12288 v0 a (512 * (i 0).val + b)) ?_ ?_ ?_ ?_ r l (by show 512 * n ≤ r.val; omega) (by show r.val < 512 * n + 512; omega)
      · intro a l
        show Tile.tileCodes (rows0 i arg3 h1 X ⟨n, hk⟩) 12288#32 (tok ⟨n, hk⟩) (col (num i) 0#32) v0 (ValueIdx.ix2 a l) = _
        rw [tok_eq, col_eq0 i]
        refine (Tile.tileCodes_eq (tile0 i arg3 h1 X hX ⟨n, hk⟩) 12288 v0 a l).trans ?_
        congr 1
        show 128 * (4 * (i 0).val + 0) + l.val = 512 * (i 0).val + (128 * 0 + l.val)
        omega
      · intro a l
        show Tile.tileCodes (rows1 i arg3 h1 X ⟨n, hk⟩) 12288#32 (tok ⟨n, hk⟩) (col (num i) 128#32) v0 (ValueIdx.ix2 a l) = _
        rw [tok_eq, col_eq1 i]
        refine (Tile.tileCodes_eq (tile1 i arg3 h1 X hX ⟨n, hk⟩) 12288 v0 a l).trans ?_
        congr 1
        show 128 * (4 * (i 0).val + 1) + l.val = 512 * (i 0).val + (128 * 1 + l.val)
        omega
      · intro a l
        show Tile.tileCodes (rows2 i arg3 h1 X ⟨n, hk⟩) 12288#32 (tok ⟨n, hk⟩) (col (num i) 256#32) v0 (ValueIdx.ix2 a l) = _
        rw [tok_eq, col_eq2 i]
        refine (Tile.tileCodes_eq (tile2 i arg3 h1 X hX ⟨n, hk⟩) 12288 v0 a l).trans ?_
        congr 1
        show 128 * (4 * (i 0).val + 2) + l.val = 512 * (i 0).val + (128 * 2 + l.val)
        omega
      · intro a l
        show Tile.tileCodes (rows3 i arg3 h1 X ⟨n, hk⟩) 12288#32 (tok ⟨n, hk⟩) (col (num i) 384#32) v0 (ValueIdx.ix2 a l) = _
        rw [tok_eq, col_eq3 i]
        refine (Tile.tileCodes_eq (tile3 i arg3 h1 X hX ⟨n, hk⟩) 12288 v0 a l).trans ?_
        congr 1
        show 128 * (4 * (i 0).val + 3) + l.val = 512 * (i 0).val + (128 * 3 + l.val)
        omega

include hX in
/-- The dequantised tile after `n` trips. -/
theorem deq_done (n : ℕ) (hn : n ≤ 8) (r : Fin 4096) (l : Fin 512) (hr : r.val < 512 * n) :
    arg8.view.read (Elt Ideal) (arg8.view.writes (Elt Ideal) G8 (done 𝒱 c bd i arg2 harg2 arg3 harg3 arg4 harg4 arg5 harg5 arg6 harg6 arg7 harg7 arg8 harg8 v0 h1 X G5 G6 G8 n).2.2)
      (ValueIdx.ix2 r l) = Tile.dq XF 12288 v0 r.val (512 * (i 0).val + l.val) := by
  induction n with
  | zero => omega
  | succ n ih =>
    have hk : n < k0_t1_loop.trips := by rw [trips_eq]; omega
    rw [done_succ 𝒱 c bd i arg2 harg2 arg3 harg3 arg4 harg4 arg5 harg5 arg6 harg6 arg7 harg7 arg8 harg8 v0 h1 X G5 G6 G8 ⟨n, hk⟩]
    dsimp only
    by_cases h : r.val < 512 * n
    · exact (four_miss i h1 arg8 G8 ⟨n, hk⟩ _ _ _ _ _ r l h).trans (ih (by omega) h)
    · refine four_hit i h1 arg8 G8 ⟨n, hk⟩ _ _ _ _ _ (fun a b => Tile.dq XF 12288 v0 a (512 * (i 0).val + b)) ?_ ?_ ?_ ?_ r l (by show 512 * n ≤ r.val; omega) (by show r.val < 512 * n + 512; omega)
      · intro a l
        show Tile.tileDeq (rows0 i arg3 h1 X ⟨n, hk⟩) 12288#32 (tok ⟨n, hk⟩) (col (num i) 0#32) v0 (ValueIdx.ix2 a l) = _
        rw [tok_eq, col_eq0 i]
        refine (Tile.tileDeq_eq (tile0 i arg3 h1 X hX ⟨n, hk⟩) 12288 v0 a l).trans ?_
        congr 1
        show 128 * (4 * (i 0).val + 0) + l.val = 512 * (i 0).val + (128 * 0 + l.val)
        omega
      · intro a l
        show Tile.tileDeq (rows1 i arg3 h1 X ⟨n, hk⟩) 12288#32 (tok ⟨n, hk⟩) (col (num i) 128#32) v0 (ValueIdx.ix2 a l) = _
        rw [tok_eq, col_eq1 i]
        refine (Tile.tileDeq_eq (tile1 i arg3 h1 X hX ⟨n, hk⟩) 12288 v0 a l).trans ?_
        congr 1
        show 128 * (4 * (i 0).val + 1) + l.val = 512 * (i 0).val + (128 * 1 + l.val)
        omega
      · intro a l
        show Tile.tileDeq (rows2 i arg3 h1 X ⟨n, hk⟩) 12288#32 (tok ⟨n, hk⟩) (col (num i) 256#32) v0 (ValueIdx.ix2 a l) = _
        rw [tok_eq, col_eq2 i]
        refine (Tile.tileDeq_eq (tile2 i arg3 h1 X hX ⟨n, hk⟩) 12288 v0 a l).trans ?_
        congr 1
        show 128 * (4 * (i 0).val + 2) + l.val = 512 * (i 0).val + (128 * 2 + l.val)
        omega
      · intro a l
        show Tile.tileDeq (rows3 i arg3 h1 X ⟨n, hk⟩) 12288#32 (tok ⟨n, hk⟩) (col (num i) 384#32) v0 (ValueIdx.ix2 a l) = _
        rw [tok_eq, col_eq3 i]
        refine (Tile.tileDeq_eq (tile3 i arg3 h1 X hX ⟨n, hk⟩) 12288 v0 a l).trans ?_
        congr 1
        show 128 * (4 * (i 0).val + 3) + l.val = 512 * (i 0).val + (128 * 3 + l.val)
        omega

/-- A tile's scales put into its lanes. -/
theorem put_apply {k : Fin k0_t1_loop.trips} {v : FVec Ideal S512x128 .bf16} (g : Fin 4) (hv : Tile.IsTile XF k.val (4 * (i 0).val + g.val) v)
    (old : FVec Ideal S8x128 .f32) (b : Fin 8) (l : Fin 128) : put (num i) (BitVec.ofNat 32 g.val) v old (ValueIdx.ix2 b l)
      = if l.val / 4 = 4 * ((i 0).val % 8) + g.val then Tile.scl XF (8 * k.val + b.val) (16 * (i 0).val + l.val % 16) else old (ValueIdx.ix2 b l) := by
  have hi : (i 0).val < 24 := (i 0).isLt
  have hm : Tile.mine (slot (num i) (BitVec.ofNat 32 g.val)) (ValueIdx.ix2 b l) = BitVec.ofBool (decide (l.val / 4 = 4 * ((i 0).val % 8) + g.val)) := by
    rw [show slot (num i) (BitVec.ofNat 32 g.val) = _ from slot_eq ⟨(i 0).val, hi⟩ g]
    exact Tile.mine_apply _ (by omega) _ _
  show Scalar.select (Tile.mine (slot (num i) (BitVec.ofNat 32 g.val)) (ValueIdx.ix2 b l)) (Tile.compact (Tile.tileScale v) (ValueIdx.ix2 b l)) (old (ValueIdx.ix2 b l)) = _
  rw [hm, Tile.select_ofBool]
  by_cases h : l.val / 4 = 4 * ((i 0).val % 8) + g.val
  · rw [if_pos h, if_pos h, Tile.compact_eq hv]
    congr 1
    omega
  · rw [if_neg h, if_neg h]

include hX in
/-- A trip's scale entries: the sixteen lanes of the grid's column take the scales of the trip's rows, the others keep theirs. -/
theorem scalesPiece_apply (k : Fin k0_t1_loop.trips) (f : BufTy.Contents (Elt Ideal) arg6.view.ty) (b : Fin 8) (l : Fin 128) (p : Fin 64) (q : Fin 384)
    (hp : p.val = 8 * k.val + b.val) (hq : q.val = 128 * ((i 0).val / 8) + l.val) :
    scalesPiece i arg3 h1 X k (num i) arg6 f (ValueIdx.ix2 b l)
      = if q.val / 16 = (i 0).val then Tile.scl XF p.val q.val else arg6.view.read (Elt Ideal) f (ValueIdx.ix2 p q) := by
  have hr : View.readAt (Elt Ideal) arg6.view (Rect.unit (s := S64x384) (k0_off1 i k) S8x128.size (k0_off1_inb i k h1)).toLoadRect f (ValueIdx.ix2 b l)
      = arg6.view.read (Elt Ideal) f (ValueIdx.ix2 p q) := by
    show arg6.view.read (Elt Ideal) f _ = _
    congr 1
    funext d
    apply Fin.ext
    show k0_off1 i k d + 1 * (ValueIdx.ix2 b l d).val = _
    rw [k0_off1_eq]
    match d with
    | ⟨0, _⟩ => show 8 * k.val + 1 * b.val = p.val; omega
    | ⟨1, _⟩ => show 128 * ((i 0).val / 8) + 1 * l.val = q.val; omega
  unfold scalesPiece
  refine (put_apply i 3 (tile3 i arg3 h1 X hX k) _ b l).trans ?_
  refine Eq.trans (if_congr Iff.rfl rfl ((put_apply i 2 (tile2 i arg3 h1 X hX k) _ b l).trans
    (if_congr Iff.rfl rfl ((put_apply i 1 (tile1 i arg3 h1 X hX k) _ b l).trans
    (if_congr Iff.rfl rfl (put_apply i 0 (tile0 i arg3 h1 X hX k) _ b l)))))) ?_
  rw [hr]
  show (if l.val / 4 = 4 * ((i 0).val % 8) + 3 then _ else if l.val / 4 = 4 * ((i 0).val % 8) + 2 then _ else
    if l.val / 4 = 4 * ((i 0).val % 8) + 1 then _ else if l.val / 4 = 4 * ((i 0).val % 8) + 0 then _ else _) = _
  by_cases h : q.val / 16 = (i 0).val
  · have e : Tile.scl XF (8 * k.val + b.val) (16 * (i 0).val + l.val % 16) = Tile.scl XF p.val q.val := by
      rw [hp]
      congr 1
      omega
    rw [if_pos h, e]
    have : l.val / 4 = 4 * ((i 0).val % 8) + 3 ∨ l.val / 4 = 4 * ((i 0).val % 8) + 2 ∨ l.val / 4 = 4 * ((i 0).val % 8) + 1
        ∨ l.val / 4 = 4 * ((i 0).val % 8) + 0 := by omega
    split
    · rfl
    split
    · rfl
    split
    · rfl
    rw [if_pos (by omega)]
  · rw [if_neg h, if_neg (by omega), if_neg (by omega), if_neg (by omega), if_neg (by omega)]

include hX in
/-- The scales after `n` trips: those of the rows done, in the sixteen columns of the grid's column; elsewhere what was there. -/
theorem scales_done (n : ℕ) (hn : n ≤ 8) (b : Fin 64) (g : Fin 384) :
    arg6.view.read (Elt Ideal) (arg6.view.writes (Elt Ideal) G6 (done 𝒱 c bd i arg2 harg2 arg3 harg3 arg4 harg4 arg5 harg5 arg6 harg6 arg7 harg7 arg8 harg8 v0 h1 X G5 G6 G8 n).2.1)
      (ValueIdx.ix2 b g) = if b.val < 8 * n ∧ g.val / 16 = (i 0).val then Tile.scl XF b.val g.val else arg6.view.read (Elt Ideal) G6 (ValueIdx.ix2 b g) := by
  induction n with
  | zero => rw [if_neg (by omega)]; rfl
  | succ n ih =>
    have hk : n < k0_t1_loop.trips := by rw [trips_eq]; omega
    have hi : (i 0).val < 24 := (i 0).isLt
    rw [done_succ 𝒱 c bd i arg2 harg2 arg3 harg3 arg4 harg4 arg5 harg5 arg6 harg6 arg7 harg7 arg8 harg8 v0 h1 X G5 G6 G8 ⟨n, hk⟩]
    dsimp only
    by_cases h : 8 * n ≤ b.val ∧ b.val < 8 * n + 8
    · by_cases hc : 128 * ((i 0).val / 8) ≤ g.val ∧ g.val < 128 * ((i 0).val / 8) + 128
      · refine (View.read_writes_cons_unit_of_mem (s := S64x384) _ _ (size := S8x128.size) _ _ _ (ValueIdx.ix2 b g)
          (ValueIdx.ix2 (⟨b.val - 8 * n, by omega⟩ : Fin 8) (⟨g.val - 128 * ((i 0).val / 8), by omega⟩ : Fin 128)) (k0_off1_eq i ⟨n, hk⟩)
          (Fin.forall_fin_two.mpr ⟨by show b.val = 8 * n + (b.val - 8 * n); omega,
            by show g.val = 128 * ((i 0).val / 8) + (g.val - 128 * ((i 0).val / 8)); omega⟩)).trans ?_
        refine (scalesPiece_apply i arg3 arg6 h1 X hX ⟨n, hk⟩ _ (⟨b.val - 8 * n, by omega⟩ : Fin 8) (⟨g.val - 128 * ((i 0).val / 8), by omega⟩ : Fin 128) b g (by show b.val = 8 * n + (b.val - 8 * n); omega)
          (by show g.val = 128 * ((i 0).val / 8) + (g.val - 128 * ((i 0).val / 8)); omega)).trans ?_
        by_cases hg : g.val / 16 = (i 0).val
        · rw [if_pos hg, if_pos ⟨by omega, hg⟩]
        · rw [if_neg hg, if_neg (fun hc => hg hc.2), ih (by omega), if_neg (fun hc => hg hc.2)]
      · rw [View.read_writes_cons_unit_of_not_mem _ _ _ _ _ _ (k0_off1_eq i ⟨n, hk⟩) (1 : Fin 2)
          (by show g.val < 128 * ((i 0).val / 8) ∨ 128 * ((i 0).val / 8) + 128 ≤ g.val; omega), ih (by omega)]
        rw [if_neg (by omega), if_neg (by omega)]
    · rw [View.read_writes_cons_unit_of_not_mem _ _ _ _ _ _ (k0_off1_eq i ⟨n, hk⟩) (0 : Fin 2)
        (by show b.val < 8 * n ∨ 8 * n + 8 ≤ b.val; omega), ih (by omega)]
      have : (b.val < 8 * n ∧ g.val / 16 = (i 0).val) ↔ (b.val < 8 * (n + 1) ∧ g.val / 16 = (i 0).val) := by omega
      simp only [this]

end

end Cert.KernelIdeal.Gen

end
-- ==== Proof.KRun.lean ====
/- The body of the main call, run once at a grid point: at the first point of a column it quantises the column and keeps the
   dequantised tile in its scratch; at every point it multiplies that tile with a block of the dequantised dy. -/
module

public import proofs.«01_k».proof.Proof.KLoop
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The codes of column `j` of the matrix `XF`: 512 columns of the matrix. -/
def CodesOf (XF : ℕ → ℕ → EReal) (seed : BitVec 32) (j : ℕ) (d : Vec Ideal S4096x512 .i8) : Prop :=
  ∀ (r : Fin 4096) (l : Fin 512), d (ValueIdx.ix2 r l) = Tile.code XF 12288 seed r.val (512 * j + l.val)

/-- The dequantised entries of column `j`. -/
def DeqOf (XF : ℕ → ℕ → EReal) (seed : BitVec 32) (j : ℕ) (d : Vec Ideal S4096x512 .bf16) : Prop :=
  ∀ (r : Fin 4096) (l : Fin 512), d (ValueIdx.ix2 r l) = Tile.dq XF 12288 seed r.val (512 * j + l.val)

/-- The scales of the columns up to `j`. -/
def ScalesTo (XF : ℕ → ℕ → EReal) (j : ℕ) (d : Vec Ideal S64x384 .f32) : Prop :=
  ∀ (b : Fin 64) (g : Fin 384), g.val / 16 ≤ j → d (ValueIdx.ix2 b g) = Tile.scl XF b.val g.val

/-- An element of dw: column `p` of the dequantised matrix against row `q` of `D`. -/
def dwAt (XF : ℕ → ℕ → EReal) (seed : BitVec 32) (D : Vec Ideal S3456x4096 .bf16) (p : ℕ) (q : Fin 3456) : EReal :=
  ∑ r : Fin 4096, Tile.dq XF 12288 seed r.val p * (D (ValueIdx.ix2 q r) : EReal)

/-- Block `b` of column `j` of dw. -/
def DwOf (XF : ℕ → ℕ → EReal) (seed : BitVec 32) (D : Vec Ideal S3456x4096 .bf16) (j b : ℕ) (d : Vec Ideal S512x384 .f32) : Prop :=
  ∀ (l : Fin 512) (q : Fin 384) (h : 384 * b + q.val < 3456), d (ValueIdx.ix2 l q) = dwAt XF seed D (512 * j + l.val) ⟨384 * b + q.val, h⟩

/-- The seed of x: the first of the two. -/
def seedOf (x0 : Vec Ideal S2 .i32) : BitVec 32 := x0 (ValueIdx.ix1 (0 : Fin 2))

/-- The product that the body stores, at an index. -/
theorem product_apply (v : Vec Ideal S384x4096 .bf16) (w : Vec Ideal S4096x512 .bf16) (l : Fin 512) (q : Fin 384) :
    (k0_pay2 (F := Ideal) v w (ValueIdx.ix2 l q) : EReal) = ∑ r : Fin 4096, (v (ValueIdx.ix2 q r) : EReal) * (w (ValueIdx.ix2 r l) : EReal) := by
  unfold k0_pay2
  pointwise
  rfl

/-- The block of dw read back where the body stored it. -/
theorem product_stored (i : grid0.Coords) (arg4 : Memref sig .tc .vmem S3456x4096 .bf16) (harg4 : arg4.IsWhole) (arg7 : Memref sig .tc .vmem S512x384 .f32)
    (f5 : BufTy.Contents (Elt Ideal) arg7.view.ty) (x2 : Vec Ideal S3456x4096 .bf16) (XF : ℕ → ℕ → EReal) (seed : BitVec 32)
    (w : Vec Ideal S4096x512 .bf16) (hw : DeqOf XF seed (i 0).val w) :
    DwOf XF seed x2 (i 0).val (i 1).val (arg7.view.read (Elt Ideal) (arg7.view.writes (Elt Ideal) f5
      [⟨Rect.unit (s := S512x384) ![0, 0] S512x384.size inb_S512x384_S512x384_0_0,
        k0_pay2 (View.readAt (Elt Ideal) arg4.view (Rect.unit (s := S3456x4096) (k0_off6 i) S384x4096.size (k0_off6_inb i)).toLoadRect (harg4.unread x2)) w⟩])) := by
  intro l q h
  refine (View.read_writes_cons_unit_of_mem (s := S512x384) _ _ (size := S512x384.size) _ _ _ (ValueIdx.ix2 l q) (ValueIdx.ix2 l q) rfl
    (Fin.forall_fin_two.mpr ⟨by show l.val = 0 + l.val; omega, by show q.val = 0 + q.val; omega⟩)).trans ?_
  refine (product_apply _ _ l q).trans ?_
  unfold dwAt
  refine Finset.sum_congr rfl fun r _ => ?_
  rw [hw r l, mul_comm]
  refine congrArg (fun y : EReal => Tile.dq XF 12288 seed r.val (512 * (i 0).val + l.val) * y) ?_
  show arg4.view.read (Elt Ideal) (harg4.unread x2) _ = _
  rw [harg4.read_unread]
  congr 1
  funext d
  apply Fin.ext
  show k0_off6 i d + 1 * (ValueIdx.ix2 q r d).val = _
  rw [k0_off6_eq]
  match d with
  | ⟨0, _⟩ => show 384 * (i 1).val + 1 * q.val = 384 * (i 1).val + q.val; omega
  | ⟨1, _⟩ => show 0 + 1 * r.val = r.val; omega

/-- The whole scratch read back. -/
theorem whole_read (arg8 : Memref sig .tc .vmem S4096x512 .bf16) (f : BufTy.Contents (Elt Ideal) arg8.view.ty) (r : Fin 4096) (l : Fin 512) :
    View.readAt (Elt Ideal) arg8.view (Rect.unit (s := S4096x512) ![0, 0] S4096x512.size inb_S4096x512_S4096x512_0_0).toLoadRect f (ValueIdx.ix2 r l)
      = arg8.view.read (Elt Ideal) f (ValueIdx.ix2 r l) := by
  show arg8.view.read (Elt Ideal) f _ = _
  congr 1
  funext d
  apply Fin.ext
  match d with
  | ⟨0, _⟩ => show 0 + 1 * r.val = r.val; omega
  | ⟨1, _⟩ => show 0 + 1 * l.val = l.val; omega

set_option maxHeartbeats 1000000 in
/-- The first point of a column. -/
theorem kernelRun_A (c : Dev nD) (i : grid0.Coords) (arg2 : Memref sig .tc .smem S2 .i32) (harg2 : arg2.IsWhole) (arg3 : Memref sig .tc .vmem S4096x512 .bf16) (harg3 : arg3.IsWhole)
    (arg4 : Memref sig .tc .vmem S3456x4096 .bf16) (harg4 : arg4.IsWhole) (arg5 : Memref sig .tc .vmem S4096x512 .i8) (harg5 : arg5.IsWhole)
    (arg6 : Memref sig .tc .vmem S64x384 .f32) (harg6 : arg6.IsWhole) (arg7 : Memref sig .tc .vmem S512x384 .f32) (harg7 : arg7.IsWhole)
    (arg8 : Memref sig .tc .vmem S4096x512 .bf16) (harg8 : arg8.IsWhole) (hc0 : k0_cond1 i = 1#1)
    (x0 : Vec Ideal S2 .i32) (x1 : Vec Ideal S4096x512 .bf16) (x2 : Vec Ideal S3456x4096 .bf16) (x4 : Vec Ideal S64x384 .f32) (XF : ℕ → ℕ → EReal)
    (hX : ∀ (r : Fin 4096) (l : Fin 512), x1 (ValueIdx.ix2 r l) = XF r.val (512 * (i 0).val + l.val))
    (h4 : ∀ (b : Fin 64) (g : Fin 384), g.val / 16 < (i 0).val → x4 (ValueIdx.ix2 b g) = Tile.scl XF b.val g.val)
    (E : Set ℕ) (K : PUnit → sProp 𝕄) :
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare x4 ∗ (∃ d, owns (c : Thread nD τ) arg7 fullShare d)
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ d, ⌜CodesOf XF (seedOf x0) (i 0).val d⌝ ∗ owns (c : Thread nD τ) arg5 fullShare d)
                ∗ (∃ d, ⌜ScalesTo XF (i 0).val d⌝ ∗ owns (c : Thread nD τ) arg6 fullShare d)
                ∗ (∃ d, ⌜DwOf XF (seedOf x0) x2 (i 0).val (i 1).val d⌝ ∗ owns (c : Thread nD τ) arg7 fullShare d)
                ∗ (∃ d, ⌜DeqOf XF (seedOf x0) (i 0).val d⌝ ∗ owns (c : Thread nD τ) arg8 fullShare d)) -∗ K ⟨⟩))
          ⊢ wp frame (wpE (defs₀ (F := Ideal)) Variants.none c none) E (cc0_quant_x_dw i arg2 harg2 arg3 harg3 arg4 harg4 arg5 harg5 arg6 harg6 arg7 harg7 arg8 harg8) K := by
  simp only [cc0_quant_x_dw_eq_skeleton]; unfold cc0_quant_x_dw_skel
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%ds0, %fs0, -, HS0⟩, Hk⟩
  obtain rfl := harg2.eq_unread hf0; obtain rfl := harg3.eq_unread hf1; obtain rfl := harg4.eq_unread hf2
  have hX' : ∀ (r : Fin 4096) (l : Fin 512), arg3.view.read (Elt Ideal) (harg3.unread x1) (ValueIdx.ix2 r l) = XF r.val (512 * (i 0).val + l.val) := by
    intro r l; rw [harg3.read_unread]; exact hX r l
  sl_exec (disch := first | sl_exact hc0)
  have seed_eq : kernelRun_A.sl.r c arg2 harg2 x0 = seedOf x0 := by
    unfold kernelRun_A.sl.r seedOf
    show arg2.view.read (Elt Ideal) (harg2.unread x0) _ = _
    rw [harg2.read_unread]
    congr 1
    funext a
    match a with
    | ⟨0, _⟩ => rfl
  sl_step
  have hS : ∀ (r : Fin 4096) (l : Fin 512), arg8.view.read (Elt Ideal) (arg8.view.writes (Elt Ideal) fs0
      (done Variants.none c none i arg2 harg2 arg3 harg3 arg4 harg4 arg5 harg5 arg6 harg6 arg7 harg7 arg8 harg8 (kernelRun_A.sl.r c arg2 harg2 x0) hc0 (harg3.unread x1) f3 f4 fs0 8).2.2)
      (ValueIdx.ix2 r l) = Tile.dq XF 12288 (seedOf x0) r.val (512 * (i 0).val + l.val) := by
    intro r l
    refine (deq_done _ c _ i arg2 harg2 arg3 harg3 arg4 harg4 arg5 harg5 arg6 harg6 arg7 harg7 arg8 harg8 _ hc0 _ hX' _ _ _ 8 (Nat.le_refl _) r l (by omega)).trans ?_
    rw [seed_eq]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexists _; isplitr; swap; · iexact H3
      ipureintro; rfl
    ipureintro
    intro r l
    refine (codes_done _ c _ i arg2 harg2 arg3 harg3 arg4 harg4 arg5 harg5 arg6 harg6 arg7 harg7 arg8 harg8 _ hc0 _ hX' _ _ _ 8 (Nat.le_refl _) r l (by omega)).trans ?_
    rw [seed_eq]
  isplitl [H4]
  · iexists _; isplitr; swap
    · iexists _; isplitr; swap; · iexact H4
      ipureintro; rfl
    ipureintro
    intro b g hg
    refine (scales_done _ c _ i arg2 harg2 arg3 harg3 arg4 harg4 arg5 harg5 arg6 harg6 arg7 harg7 arg8 harg8 _ hc0 _ hX' _ _ _ 8 (Nat.le_refl _) b g).trans ?_
    by_cases h : g.val / 16 = (i 0).val
    · rw [if_pos ⟨by omega, h⟩]
    · rw [if_neg (fun hc => h hc.2), hf4]
      exact h4 b g (by omega)
  isplitl [H5]
  · iexists _; isplitr; swap
    · iexists _; isplitr; swap; · iexact H5
      ipureintro; rfl
    ipureintro
    refine product_stored i arg4 harg4 arg7 f5 x2 XF (seedOf x0) _ fun r l => ?_
    unfold kernelRun_A.sl.v9
    exact (whole_read arg8 _ r l).trans (hS r l)
  iexists _; isplitr; swap
  · iexists _; isplitr; swap; · iexact HS0
    ipureintro; rfl
  ipureintro
  intro r l
  exact hS r l

set_option maxHeartbeats 1000000 in
/-- The other points of a column: the scratch holds the dequantised tile. -/
theorem kernelRun_B (c : Dev nD) (i : grid0.Coords) (arg2 : Memref sig .tc .smem S2 .i32) (harg2 : arg2.IsWhole) (arg3 : Memref sig .tc .vmem S4096x512 .bf16) (harg3 : arg3.IsWhole)
    (arg4 : Memref sig .tc .vmem S3456x4096 .bf16) (harg4 : arg4.IsWhole) (arg5 : Memref sig .tc .vmem S4096x512 .i8) (harg5 : arg5.IsWhole)
    (arg6 : Memref sig .tc .vmem S64x384 .f32) (harg6 : arg6.IsWhole) (arg7 : Memref sig .tc .vmem S512x384 .f32) (harg7 : arg7.IsWhole)
    (arg8 : Memref sig .tc .vmem S4096x512 .bf16) (harg8 : arg8.IsWhole) (hc0 : ¬k0_cond1 i = 1#1)
    (x2 : Vec Ideal S3456x4096 .bf16) (x8 : Vec Ideal S4096x512 .bf16) (XF : ℕ → ℕ → EReal) (seed : BitVec 32) (h8 : DeqOf XF seed (i 0).val x8)
    (x0 : Vec Ideal S2 .i32) (E : Set ℕ) (K : PUnit → sProp 𝕄) :
        iprop(owns (c : Thread nD τ) arg2 fullShare x0 ∗ owns (c : Thread nD τ) arg4 fullShare x2 ∗ (∃ d, owns (c : Thread nD τ) arg7 fullShare d)
            ∗ owns (c : Thread nD τ) arg8 fullShare x8
            ∗ (iprop(owns (c : Thread nD τ) arg2 fullShare x0 ∗ owns (c : Thread nD τ) arg4 fullShare x2
                ∗ (∃ d, ⌜DwOf XF seed x2 (i 0).val (i 1).val d⌝ ∗ owns (c : Thread nD τ) arg7 fullShare d)
                ∗ owns (c : Thread nD τ) arg8 fullShare x8) -∗ K ⟨⟩))
          ⊢ wp frame (wpE (defs₀ (F := Ideal)) Variants.none c none) E (cc0_quant_x_dw i arg2 harg2 arg3 harg3 arg4 harg4 arg5 harg5 arg6 harg6 arg7 harg7 arg8 harg8) K := by
  simp only [cc0_quant_x_dw_eq_skeleton]; unfold cc0_quant_x_dw_skel
  unfold owns
  iintro ⟨⟨%f0, %hf0, H0⟩, ⟨%f2, %hf2, H2⟩, ⟨%d5, %f5, -, H5⟩, ⟨%fs0, %hfs0, HS0⟩, Hk⟩
  obtain rfl := harg2.eq_unread hf0; obtain rfl := harg4.eq_unread hf2; obtain rfl := harg8.eq_unread hfs0
  sl_exec (disch := first | sl_exact hc0)
  sl_step
  iapply Hk
  isplitl [H0]
  · iexists _; isplitr; · ipureintro; exact harg2.read_unread _
    iexact H0
  isplitl [H2]
  · iexists _; isplitr; · ipureintro; exact harg4.read_unread _
    iexact H2
  isplitl [H5]
  · iexists _; isplitr; swap
    · iexists _; isplitr; swap; · iexact H5
      ipureintro; rfl
    ipureintro
    refine product_stored i arg4 harg4 arg7 f5 x2 XF seed _ fun r l => ?_
    refine (whole_read arg8 _ r l).trans ?_
    rw [harg8.read_unread]
    exact h8 r l
  iexists _; isplitr; · ipureintro; exact harg8.read_unread _
  iexact HS0

end Cert.KernelIdeal.Gen

end
-- ==== Proof.KBody.lean ====
/- The main call as a pipeline: its proof data, which hold each output to what `Spec` says of the current column (the scales, which
   stay in place from point to point, to what it says of the columns up to the current one) and the scratch to the dequantised
   tile of the current column, and the run to the end. -/
module

public import proofs.«01_k».proof.Proof.KRun
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (UR sig nD τ) ℕ

variable (m : (ℓ : Loc nD τ sig) → Buf (Elt Ideal) ℓ) (ρ : Dev nD → PrngReg)

/-- x as a matrix. -/
def xMat (c : Dev nD) : ℕ → ℕ → EReal :=
  Tile.mat fun (a : Fin 2) (b : Fin 2048) (g : Fin 12288) => (m ((c : Thread nD τ).loc main_arg0) (ValueIdx.ix3 a b g) : EReal)

/-- Its seed. -/
def xSeed (c : Dev nD) : BitVec 32 := m ((c : Thread nD τ).loc main_arg2) (ValueIdx.ix1 (0 : Fin 2))

/-- The dequantised dy, transposed. -/
def dqt (c : Dev nD) : Vec Ideal S3456x4096 .bf16 := m ((c : Thread nD τ).loc main_arg1)

theorem coords_0 : ∀ t : Fin cfg0.N, (grid0.coords t 0).val = t.val / 9 := by decide +kernel

theorem coords_1 : ∀ t : Fin cfg0.N, (grid0.coords t 1).val = t.val % 9 := by decide +kernel

theorem first_iff : ∀ t : Fin cfg0.N, k0_cond1 (grid0.coords t) = 1#1 ↔ t.val % 9 = 0 := by decide +kernel

theorem index_0 : ∀ t : Fin cfg0.N, win0_0.index t = ![0] := by decide +kernel

theorem index_1 : ∀ t : Fin cfg0.N, win0_1.index t = ![0, t.val / 9] := by decide +kernel

theorem index_2 : ∀ t : Fin cfg0.N, win0_2.index t = ![0, 0] := by decide +kernel

theorem fetch_3 : ∀ t : Fin cfg0.N, (cfg0.win 3).fetch t = false := by decide +kernel

theorem fetch_4 : ∀ t : Fin cfg0.N, (cfg0.win 4).fetch t = false := by decide +kernel

theorem iblk_0 (c : Dev nD) (t : Fin cfg0.N) : seedOf (iblk m c 0 t) = xSeed m c := by
  unfold seedOf xSeed iblk
  entry_read
  blk_ext [V, index_0]

theorem iblk_1 (c : Dev nD) (t : Fin cfg0.N) (r : Fin 4096) (l : Fin 512) :
    (iblk m c 1 t : Vec Ideal S4096x512 .bf16) (ValueIdx.ix2 r l) = xMat m c r.val (512 * (grid0.coords t 0).val + l.val) := by
  have ht : t.val < 216 := Nat.lt_of_lt_of_eq t.isLt N_0
  unfold xMat Tile.mat iblk
  rw [dif_pos ⟨r.isLt, by rw [coords_0]; omega⟩]
  entry_read
  have e : (win0_1.blk t).view.emb (ValueIdx.ix2 r l) = ValueIdx.ix2 (⟨r.val, r.isLt⟩ : Fin 4096) (⟨512 * (t.val / 9) + l.val, by omega⟩ : Fin 12288) := by
    blk_ext [index_1]
    show t.val / 9 * 512 + l.val = 512 * (t.val / 9) + l.val
    omega
  show shapeCast main_v1.ty.shape (m (c, Proc.tc.devRef main_arg0)) shapeCasts_S2x2048x12288_S4096x12288 ((win0_1.blk t).view.emb (ValueIdx.ix2 r l)) = _
  rw [e]
  have hc := coords_0 t
  refine (shapeCast_apply _ _ _ (ValueIdx.ix3 (⟨r.val / 2048, by omega⟩ : Fin 2) (⟨r.val % 2048, by omega⟩ : Fin 2048) (⟨512 * (t.val / 9) + l.val, by omega⟩ : Fin 12288)) ?_).trans ?_
  · refine (Shape.rowMajor_val_three _).trans (Eq.trans ?_ (Shape.rowMajor_val_two _).symm)
    show ((r.val / 2048) * 2048 + r.val % 2048) * 12288 + (512 * (t.val / 9) + l.val) = r.val * 12288 + (512 * (t.val / 9) + l.val)
    omega
  · simp only [hc]

theorem iblk_2 (c : Dev nD) (t : Fin cfg0.N) : (iblk m c 2 t : Vec Ideal S3456x4096 .bf16) = dqt m c := by
  funext y
  unfold dqt iblk
  entry_read
  blk_ext [V, index_2]

/-- The windows held to a relation: the three outputs. -/
def marked : Fin 6 → Bool := fun w => w.val == 3 || w.val == 4 || w.val == 5

/-- What the body leaves in each output. -/
def Leaves (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun X => CodesOf (xMat m c) (xSeed m c) (grid0.coords t 0).val X
  | ⟨4, _⟩ => fun X => ScalesTo (xMat m c) (grid0.coords t 0).val X
  | ⟨5, _⟩ => fun X => DwOf (xMat m c) (xSeed m c) (dqt m c) (grid0.coords t 0).val (grid0.coords t 1).val X

/-- The scratch of the body. -/
abbrev scratch : Memref sig .tc .vmem S4096x512 .bf16 := Memref.whole cc0_scratch0

/-- Between the points: past the first point the scratch holds the dequantised tile of the last point's column. -/
def kept (c : Dev nD) (t : Fin (cfg0.N + 1)) : sProp 𝕄 :=
  iprop((∃ d, ⌜t.val ≠ 0 → DeqOf (xMat m c) (xSeed m c) ((t.val - 1) / 9) d⌝ ∗ owns (c : Thread nD τ) scratch fullShare d) ∗ (∃ r, prngReg c r))

theorem PhiA_eq (c : Dev nD) : (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The proof data: the arrays as the region finds them, each input's block in place, nothing owed, full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := kept m c t
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The data with the outputs held to `Leaves`. -/
abbrev rdats (c : Dev nD) : Pipeline.RDat τ (Elt Ideal) Unit ℕ (UR sig nD τ) ℕ cfg0 c := (dats m 0 c).toRRel marked (Leaves m c)

/-- Past the first point the scales are found as the last point left them. -/
theorem scales_left (c : Dev nD) (t : Fin cfg0.N) (h0 : t.val ≠ 0) (Y : Vec Ideal S64x384 .f32) (h : (rdats m c).Finds 4 t Y) :
    ScalesTo (xMat m c) ((t.val - 1) / 9) Y := by
  have ht : t.val < 216 := Nat.lt_of_lt_of_eq t.isLt N_0
  rw [Pipeline.RDat.finds_of_pos _ (fetch_4 t) (by omega)] at h
  rcases h with h | h
  · have := (flush0_4 _).mp h
    dsimp only at this
    omega
  · have h' := (dats m 0 c).toRRel_leaves (w := 4) rfl h
    have h'' : ScalesTo (xMat m c) (grid0.coords (⟨t.val - 1, by omega⟩ : Fin cfg0.N) 0).val Y := h'
    rw [coords_0] at h''
    exact h''

/-- The scales found at a point are right for the columns before. -/
theorem scales_found (c : Dev nD) (t : Fin cfg0.N) (Y : Vec Ideal S64x384 .f32) (h : (rdats m c).Finds 4 t Y)
    (b : Fin 64) (g : Fin 384) (hg : g.val / 16 < (grid0.coords t 0).val) : Y (ValueIdx.ix2 b g) = Tile.scl (xMat m c) b.val g.val := by
  rw [coords_0] at hg
  exact scales_left m c t (by omega) Y h b g (by omega)

/-- Past the first point of a column the codes are found as the last point left them. -/
theorem codes_found (c : Dev nD) (t : Fin cfg0.N) (h0 : t.val % 9 ≠ 0) (Y : Vec Ideal S4096x512 .i8) (h : (rdats m c).Finds 3 t Y) :
    CodesOf (xMat m c) (xSeed m c) (grid0.coords t 0).val Y := by
  have ht : t.val < 216 := Nat.lt_of_lt_of_eq t.isLt N_0
  rw [Pipeline.RDat.finds_of_pos _ (fetch_3 t) (by omega)] at h
  rcases h with h | h
  · have := (flush0_3 _).mp h
    dsimp only at this
    omega
  · have h' := (dats m 0 c).toRRel_leaves (w := 3) rfl h
    have h'' : CodesOf (xMat m c) (xSeed m c) (grid0.coords (⟨t.val - 1, by omega⟩ : Fin cfg0.N) 0).val Y := h'
    rw [coords_0] at h'' ⊢
    have e : (t.val - 1) / 9 = t.val / 9 := by omega
    dsimp only at h''
    rw [e] at h''
    exact h''

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, ⌜(rdats m c).Finds 3 t d⌝ ∗ owns (c : Thread nD τ) (win0_3.stage (cfg0.slots t 3)) fullShare d)
    ∗ (∃ d, ⌜(rdats m c).Finds 4 t d⌝ ∗ owns (c : Thread nD τ) (win0_4.stage (cfg0.slots t 4)) fullShare d)
    ∗ (∃ d, ⌜(rdats m c).Finds 5 t d⌝ ∗ owns (c : Thread nD τ) (win0_5.stage (cfg0.slots t 5)) fullShare d))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ d, ⌜Leaves m c 3 t d⌝ ∗ owns (c : Thread nD τ) (win0_3.stage (cfg0.slots t 3)) fullShare d)
    ∗ (∃ d, ⌜Leaves m c 4 t d⌝ ∗ owns (c : Thread nD τ) (win0_4.stage (cfg0.slots t 4)) fullShare d)
    ∗ (∃ d, ⌜Leaves m c 5 t d⌝ ∗ owns (c : Thread nD τ) (win0_5.stage (cfg0.slots t 5)) fullShare d))

/-- What the scratch holds after a point: the dequantised tile of the point's column. -/
theorem kept_succ (c : Dev nD) (t : Fin cfg0.N) (d : Vec Ideal S4096x512 .bf16) (h : DeqOf (xMat m c) (xSeed m c) (grid0.coords t 0).val d) :
    t.succ.val ≠ 0 → DeqOf (xMat m c) (xSeed m c) ((t.succ.val - 1) / 9) d := by
  intro _
  rw [coords_0] at h
  exact h

/-- What it holds before a point that is not the first of its column. -/
theorem kept_before (c : Dev nD) (t : Fin cfg0.N) (h0 : t.val % 9 ≠ 0) (d : Vec Ideal S4096x512 .bf16)
    (h : t.castSucc.val ≠ 0 → DeqOf (xMat m c) (xSeed m c) ((t.castSucc.val - 1) / 9) d) : DeqOf (xMat m c) (xSeed m c) (grid0.coords t 0).val d := by
  have h' : t.val ≠ 0 → DeqOf (xMat m c) (xSeed m c) ((t.val - 1) / 9) d := h
  rw [coords_0, show t.val / 9 = (t.val - 1) / 9 by omega]
  exact h' (by omega)

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = kept m c t.succ from rfl, show (dats m 0 c).Φ t.castSucc = kept m c t.castSucc from rfl,
    show (dats m 0 c).owesAt () t.succ = (dats m 0 c).owesAt () t.castSucc from rfl,
    after0_0, after0_1, after0_2]
  unfold kept
  iintro ⟨⟨⟨%ds, %hs, HS⟩, Hg⟩, Ho, ⟨%d0, H0⟩, ⟨%d1, H1⟩, ⟨%d2, H2⟩, ⟨%d3, %h3, H3⟩, ⟨%d4, %h4, H4⟩, ⟨%d5, -, H5⟩⟩
  by_cases h0 : t.val % 9 = 0
  · iapply ((kernelRun_A c (grid0.coords t) _ _ _ _ _ _ _ _ _ _ _ _ _ _ ((first_iff t).mpr h0) (iblk m c 0 t) (iblk m c 1 t) (iblk m c 2 t) d4 (xMat m c)
      (iblk_1 m c t) (scales_found m c t d4 h4)) Set.univ _)
    rw [iblk_0, iblk_2]
    isplitl [H0]; · iexact H0
    isplitl [H1]; · iexact H1
    isplitl [H2]; · iexact H2
    isplitl [H3]; · iexists _; iexact H3
    isplitl [H4]; · iexact H4
    isplitl [H5]; · iexists _; iexact H5
    isplitl [HS]; · iexists _; iexact HS
    iintro ⟨H0, H1, H2, H3, H4, H5, ⟨%e, %he, HS⟩⟩
    isplitl [HS Hg]
    · isplitl [HS]
      · iexists e; isplitr; · ipureintro; exact kept_succ m c t e he
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hd := kept_before m c t h0 ds hs
    iapply ((kernelRun_B c (grid0.coords t) _ _ _ _ _ _ _ _ _ _ _ _ _ _ (fun h => h0 ((first_iff t).mp h)) (iblk m c 2 t) ds (xMat m c) (xSeed m c) hd (iblk m c 0 t)) Set.univ _)
    rw [iblk_2]
    isplitl [H0]; · iexact H0
    isplitl [H2]; · iexact H2
    isplitl [H5]; · iexists _; iexact H5
    isplitl [HS]; · iexact HS
    iintro ⟨H0, H2, H5, HS⟩
    isplitl [HS Hg]
    · isplitl [HS]
      · iexists ds; isplitr; · ipureintro; exact kept_succ m c t ds hd
        iexact HS
      iexact Hg
    isplitl [Ho]; · iexact Ho
    isplitl [H0]; · iexact H0
    isplitl [H1]; · iexact H1
    isplitl [H2]; · iexact H2
    isplitl [H3]
    · iexists d3; isplitr; · ipureintro; exact codes_found m c t h0 d3 h3
      iexact H3
    isplitl [H4]
    · iexists d4; isplitr
      · ipureintro
        show ScalesTo (xMat m c) (grid0.coords t 0).val d4
        rw [coords_0, show t.val / 9 = (t.val - 1) / 9 by omega]
        exact scales_left m c t (by omega) d4 h4
      iexact H4
    iexact H5

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    Pipeline.BodyObligationRel (dats m 0 c) (defs₀ (F := Ideal)) Variants.none () Set.univ marked (Leaves m c) := fun t => by
  rw [bigSep_W0, bigSep_W0, defs₀_row]
  exact triple_restated (sound_body m c t) rfl .rfl fun _ => .rfl

/-- Before the first point the scratch holds anything. -/
theorem kept_in (c : Dev nD) : (Pipeline.ΦA spec0 c : sProp 𝕄) ⊢ kept m c 0 := by
  rw [PhiA_eq]
  unfold kept
  iintro ⟨⟨%d, HS⟩, Hg⟩
  isplitl [HS]
  · iexists d; isplitr; · ipureintro; exact fun h => absurd rfl h
    iexact HS
  iexact Hg

/-- After the last it is let go. -/
theorem kept_out (c : Dev nD) (t : Fin (cfg0.N + 1)) : kept m c t ⊢ (Pipeline.ΦA spec0 c : sProp 𝕄) := by
  rw [PhiA_eq]
  unfold kept
  iintro ⟨⟨%d, -, HS⟩, Hg⟩
  isplitl [HS]
  · iexists d; iexact HS
  iexact Hg

set_option backward.isDefEq.respectTransparency.types false in
/-- The run of the whole program, and every counter at zero at its end. -/
theorem run_main : θ_run defs (onTc (τ := τ) (main (F := Ideal))) (s₀ m ρ)
    (fun r => (Pipeline.RDat.FramePost (cfgs 0) (rdats m) (V m)) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := kept_in m) (hout := fun c => kept_out m c _) (hQ' := fun _ h => h)

end Cert.KernelIdeal.Gen

end
-- ==== Proof.KValue.lean ====
/- The three arrays that the main call returns, element by element. -/
module

public import proofs.«01_k».proof.Proof.KBody

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The codes of x. -/
def xCodes (c : Dev nD) : Vec Ideal S4096x12288 .i8 := fun i => Tile.code (xMat m c) 12288 (xSeed m c) (i 0).val (i 1).val

/-- The scales of x. -/
def xScales (c : Dev nD) : Vec Ideal S64x384 .f32 := fun i => Tile.scl (xMat m c) (i 0).val (i 1).val

/-- The product: the dequantised x, transposed, by the dequantised dy. -/
def dwArray (c : Dev nD) : Vec Ideal S12288x3456 .f32 := fun i => dwAt (xMat m c) (xSeed m c) (dqt m c) (i 0).val (i 1)

theorem index_3 : ∀ t : Fin cfg0.N, win0_3.index t = ![0, t.val / 9] := by decide +kernel
theorem index_4 : ∀ t : Fin cfg0.N, win0_4.index t = ![0, 0] := by decide +kernel
theorem index_5 : ∀ t : Fin cfg0.N, win0_5.index t = ![t.val / 9, t.val % 9] := by decide +kernel

section
variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdats m c).Leaves w u (after w u))

include hL

theorem codes_array : ((rdats m c).withAfter after).arrAt 3 cfg0.N = xCodes m c := by
  refine Dat.arrAt_eq_of_covers _ 3 _ (by decide +kernel) fun t hf y => ?_
  have h : CodesOf (xMat m c) (xSeed m c) (grid0.coords t 0).val (after 3 t) := (dats m 0 c).toRRel_leaves (w := 3) rfl (hL 3 t hf)
  rw [coords_0] at h
  have h' := h (y 0) (y 1)
  have e0 : ((win0_3.blk t).view.emb y 0).val = (y 0).val := by blk_simp [index_3]; try omega
  have e1 : ((win0_3.blk t).view.emb y 1).val = 512 * (t.val / 9) + (y 1).val := by blk_simp [index_3]; try omega
  unfold xCodes
  show after 3 t y = Tile.code _ _ _ ((win0_3.blk t).view.emb y 0).val ((win0_3.blk t).view.emb y 1).val
  rw [e0, e1, ← h']
  exact congrArg (after 3 t) (ValueIdx.eq_ix2 y)

theorem scales_array : ((rdats m c).withAfter after).arrAt 4 cfg0.N = xScales m c := by
  refine Dat.arrAt_eq_of_covers _ 4 _ (by decide +kernel) fun t hf y => ?_
  have h : ScalesTo (xMat m c) (grid0.coords t 0).val (after 4 t) := (dats m 0 c).toRRel_leaves (w := 4) rfl (hL 4 t hf)
  rw [coords_0] at h
  have ht := (flush0_4 t).mp hf
  have ht' : t.val < 216 := Nat.lt_of_lt_of_eq t.isLt N_0
  have hy : (y 1).val < 384 := (y 1).isLt
  have h' := h (y 0) (y 1) (by omega)
  have e0 : ((win0_4.blk t).view.emb y 0).val = (y 0).val := by blk_simp [index_4]; try omega
  have e1 : ((win0_4.blk t).view.emb y 1).val = (y 1).val := by blk_simp [index_4]; try omega
  unfold xScales
  show after 4 t y = Tile.scl _ ((win0_4.blk t).view.emb y 0).val ((win0_4.blk t).view.emb y 1).val
  rw [e0, e1, ← h']
  exact congrArg (after 4 t) (ValueIdx.eq_ix2 y)

theorem dw_array : ((rdats m c).withAfter after).arrAt 5 cfg0.N = dwArray m c := by
  refine Dat.arrAt_eq_of_covers _ 5 _ (by decide +kernel) fun t hf y => ?_
  have h : DwOf (xMat m c) (xSeed m c) (dqt m c) (grid0.coords t 0).val (grid0.coords t 1).val (after 5 t) :=
    (dats m 0 c).toRRel_leaves (w := 5) rfl (hL 5 t hf)
  rw [coords_0, coords_1] at h
  have hy : (y 1).val < 384 := (y 1).isLt
  have h' := h (y 0) (y 1) (by omega)
  have e0 : ((win0_5.blk t).view.emb y 0).val = 512 * (t.val / 9) + (y 0).val := by blk_simp [index_5]; try omega
  have e1 : ((win0_5.blk t).view.emb y 1).val = 384 * (t.val % 9) + (y 1).val := by blk_simp [index_5]; try omega
  have e1' : (win0_5.blk t).view.emb y 1 = (⟨384 * (t.val % 9) + (y 1).val, by omega⟩ : Fin 3456) := Fin.ext e1
  unfold dwArray
  show after 5 t y = dwAt _ _ _ ((win0_5.blk t).view.emb y 0).val ((win0_5.blk t).view.emb y 1)
  rw [e0, e1', ← h']
  exact congrArg (after 5 t) (ValueIdx.eq_ix2 y)

end

/-- The whole run: the results, the arguments as they were, the counters at zero. -/
theorem run : θ_run defs (onTc (τ := τ) (main (F := Ideal))) ⟨m, fun _ => 0, ρ⟩ (fun r => (∀ c : Dev nD,
      r.2.mem ((c.tc : Thread nD τ).loc main_v2_0) = xCodes m c
      ∧ r.2.mem ((c.tc : Thread nD τ).loc main_v2_1) = xScales m c
      ∧ r.2.mem ((c.tc : Thread nD τ).loc main_v2_2) = dwArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (θ_run defs _ _).mono (fun r h => ⟨fun c => ?_, h.2⟩) (run_main m ρ)
  obtain ⟨after, hL, hA⟩ := Pipeline.RDat.FramePost.exists_exact h.1 c
  exact ⟨(hA 3).trans (codes_array m c after hL), (hA 4).trans (scales_array m c after hL), (hA 5).trans (dw_array m c after hL),
    ((h.1 c).2 main_arg0 (Pipeline.mem_restRefs_of main_arg0 (by decide) (by decide))).trans (V_main_arg0 m c),
    (Pipeline.RDat.FramePost.arr_in h.1 c 2 rfl).trans ((A_eq m c 2).trans (V_main_arg1 m c)),
    ((h.1 c).2 main_arg2 (Pipeline.mem_restRefs_of main_arg2 (by decide) (by decide))).trans (V_main_arg2 m c)⟩

end Cert.KernelIdeal.Gen

end
-- ==== Proof.KClaim.lean ====
/- The claims on the main call: its idealization and the reference return the same arrays. -/
module

public import proofs.«01_k».proof.Defs
public import proofs.«01_k».proof.Proof.KRef
public import proofs.«01_k».proof.Proof.KValue
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.SL.Sem

/-- The idealized main call leaves its arguments, and its counters end at zero. -/
theorem frame_kIdeal : Cert.quiescent_KernelIdeal (hKernelIdeal := Cert.KernelIdeal.Gen.facts) := fun m ρ _ =>
  (θ_run (Cert.KernelIdeal.defs (F := Ideal)) _ _).mono (fun _ h => ⟨fun c => (h.1 c).2.2.2, h.2⟩) (Cert.KernelIdeal.Gen.run m ρ)

/-- The reference of the main call leaves its arguments; it has no counter. -/
theorem frame_kRef : Cert.quiescent_ReferenceIdeal (hReferenceIdeal := Cert.ReferenceIdeal.Gen.facts) := fun m ρ _ =>
  (θ_run (Cert.ReferenceIdeal.defs (F := Ideal)) _ _).mono (fun r h => ⟨fun c => (h c).2.2.2, sem_eq_zero_of_no_sems (by decide) r.2⟩)
    (Cert.ReferenceIdeal.Value.run m ρ)

/-- The codes and scales of x and the product are the reference's. -/
theorem algebraic_k : Cert.algebraic_KernelIdeal_ReferenceIdeal (hKernelIdeal := Cert.KernelIdeal.Gen.facts)
    (hReferenceIdeal := Cert.ReferenceIdeal.Gen.facts) := by
  intro m g m' g' _ hag
  refine ⟨Cert.KernelIdeal.Gen.xCodes m, Cert.KernelIdeal.Gen.xScales m, Cert.KernelIdeal.Gen.dwArray m,
    (θ_run (Cert.KernelIdeal.defs (F := Ideal)) _ _).mono (fun _ h => h.1) (Cert.KernelIdeal.Gen.run m g),
    (θ_run (Cert.ReferenceIdeal.defs (F := Ideal)) _ _).mono (fun r h c => ⟨(h c).1.trans ?_, (h c).2.1.trans ?_, (h c).2.2.1.trans ?_, (h c).2.2.2⟩)
      (Cert.ReferenceIdeal.Value.run m' g')⟩
  · refine (Cert.ReferenceIdeal.Read.val_main_v94_eq m' c).trans ?_
    rw [(hag c).1, (hag c).2.2]
    funext i
    exact (congrArg _ (ValueIdx.eq_ix2 i)).trans (Cert.ReferenceIdeal.Read.codes_apply _ _ (i 0) (i 1))
  · refine (Cert.ReferenceIdeal.Read.val_main_v107_eq m' c).trans ?_
    rw [(hag c).1]
    funext i
    exact (congrArg _ (ValueIdx.eq_ix2 i)).trans (Cert.ReferenceIdeal.Read.scales_apply _ (i 0) (i 1))
  · refine (Cert.ReferenceIdeal.Read.val_main_v106_eq m' c).trans ?_
    rw [(hag c).1, (hag c).2.1, (hag c).2.2]
    funext i
    exact (congrArg _ (ValueIdx.eq_ix2 i)).trans (Cert.ReferenceIdeal.Read.dw_apply _ _ _ (i 0) (i 1))

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.Kernel.Skeleton
public import proofs.«01_k».proof.Proof.Gen.Kernel.Loops
public import proofs.«01_k».proof.Proof.Gen.KernelIdeal
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.QuantDy
public import proofs.«01_k».proof.Proof.Gen.QuantDy.Frame
public import proofs.«01_k».proof.Proof.Gen.QuantDy.Skeleton
public import proofs.«01_k».proof.Proof.Gen.QuantDy.Loops
public import proofs.«01_k».proof.Proof.Gen.QuantDyIdeal
public import proofs.«01_k».proof.Proof.Gen.QuantDyIdeal.Frame
public import proofs.«01_k».proof.Proof.Gen.QuantDyIdeal.Skeleton
public import proofs.«01_k».proof.Proof.Gen.QuantDyIdeal.Loops
public import proofs.«01_k».proof.Proof.Gen.QuantDyIdeal.Launch
public import proofs.«01_k».proof.Proof.Gen.QuantDyIdeal.Points
public import proofs.«01_k».proof.Proof.Gen.ReferenceDyIdeal
public import proofs.«01_k».proof.Proof.Gen.ReferenceDyIdeal.Run
public import proofs.«01_k».proof.Proof.Gen.ReferenceDyIdeal.Read
public import proofs.«01_k».proof.Proof.DyFrame
public import proofs.«01_k».proof.Proof.KFrame
public import proofs.«01_k».proof.Proof.DyClaim
public import proofs.«01_k».proof.Proof.KClaim
public import Idealize.ShloMosaic.Adequacy
public import Idealize.ShloMosaic.Init

@[expose] public section

noncomputable section

namespace Cert.Proof

open Idealize.ShloMosaic Idealize.SL.Sem Cert.Kernel

/-- Both calls of the kernel, each against its reference: the frames, and the values of every result. -/
theorem claim : Cert.Claim :=
  ⟨Cert.Kernel.Gen.facts, Cert.KernelIdeal.Gen.facts, Cert.ReferenceIdeal.Gen.facts, Cert.QuantDy.Gen.facts, Cert.QuantDyIdeal.Gen.facts,
    Cert.ReferenceDyIdeal.Gen.facts, frame_k, frame_kIdeal, frame_kRef, frame_dy,
    frame_dyIdeal, frame_dyRef, trivial, algebraic_k, trivial, algebraic_dy⟩

end Cert.Proof

end
